-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v81) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x1024 : Shape := ⟨3, ![2, 512, 1024]⟩
abbrev S1024x1024 : Shape := ⟨2, ![1024, 1024]⟩
abbrev S32x32x1024 : Shape := ⟨3, ![32, 32, 1024]⟩
abbrev S32x1024 : Shape := ⟨2, ![32, 1024]⟩
abbrev S32 : Shape := ⟨1, ![32]⟩
abbrev S512x128 : Shape := ⟨2, ![512, 128]⟩
abbrev S512x127 : Shape := ⟨2, ![512, 127]⟩
abbrev S512x1 : Shape := ⟨2, ![512, 1]⟩
abbrev S512x512 : Shape := ⟨2, ![512, 512]⟩
abbrev S512 : Shape := ⟨1, ![512]⟩
abbrev S_ : Shape := ⟨0, ![]⟩
abbrev S1 : Shape := ⟨1, ![1]⟩
abbrev S1x32x1024 : Shape := ⟨3, ![1, 32, 1024]⟩

abbrev nBuf : Space → Nat
  | .hbm => 6
  | .vmem => 14
  | .smem => 0
  | _ => 0

abbrev bufTy : (tb : Table) → Fin (tcTables nBuf tb) → BufTy
  | .hbm, ⟨0, _⟩ => ⟨S2x512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .local _ .vmem, ⟨0, _⟩ => ⟨S2x512x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S32x32x1024, .bf16⟩
  | .local _ .vmem, ⟨12, _⟩ => ⟨S32x1024, .bf16⟩
  | .local _ .vmem, ⟨13, _⟩ => ⟨S1024x1024, .bf16⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  (ofTc nBuf bufTy 1 102 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_264 : BitVec 32 := 1#32
  let v745 : BitVec 32 := Scalar.addi v2 c1_i32_264
  let c32_i32_265 : BitVec 32 := 32#32
  let v746 : BitVec 32 := Scalar.remsi v745 c32_i32_265
  let c1_i32_267 : BitVec 32 := 1#32
  let v747 : BitVec 32 := Scalar.muli v746 c1_i32_267
  let v748 : BitVec 32 := Scalar.addi c0_i32_268 v747
  v748.toNat
def k0_dev2 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_269 : BitVec 32 := 2#32
  let v749 : BitVec 32 := Scalar.addi v2 c2_i32_269
  let c32_i32_270 : BitVec 32 := 32#32
  let v750 : BitVec 32 := Scalar.remsi v749 c32_i32_270
  let c1_i32_272 : BitVec 32 := 1#32
  let v751 : BitVec 32 := Scalar.muli v750 c1_i32_272
  let v752 : BitVec 32 := Scalar.addi c0_i32_273 v751
  v752.toNat
def k0_dev3 (d0 : Dev nD) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v753 : BitVec 32 := Scalar.addi v2 c3_i32
  let c32_i32_274 : BitVec 32 := 32#32
  let v754 : BitVec 32 := Scalar.remsi v753 c32_i32_274
  let c1_i32_276 : BitVec 32 := 1#32
  let v755 : BitVec 32 := Scalar.muli v754 c1_i32_276
  let v756 : BitVec 32 := Scalar.addi c0_i32_277 v755
  v756.toNat
def k0_dev4 (d0 : Dev nD) : Nat :=
  let c0_i32_281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v757 : BitVec 32 := Scalar.addi v2 c4_i32
  let c32_i32_278 : BitVec 32 := 32#32
  let v758 : BitVec 32 := Scalar.remsi v757 c32_i32_278
  let c1_i32_280 : BitVec 32 := 1#32
  let v759 : BitVec 32 := Scalar.muli v758 c1_i32_280
  let v760 : BitVec 32 := Scalar.addi c0_i32_281 v759
  v760.toNat
def k0_dev5 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v761 : BitVec 32 := Scalar.addi v2 c5_i32
  let c32_i32_282 : BitVec 32 := 32#32
  let v762 : BitVec 32 := Scalar.remsi v761 c32_i32_282
  let c1_i32_284 : BitVec 32 := 1#32
  let v763 : BitVec 32 := Scalar.muli v762 c1_i32_284
  let v764 : BitVec 32 := Scalar.addi c0_i32_285 v763
  v764.toNat
def k0_dev6 (d0 : Dev nD) : Nat :=
  let c0_i32_289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v765 : BitVec 32 := Scalar.addi v2 c6_i32
  let c32_i32_286 : BitVec 32 := 32#32
  let v766 : BitVec 32 := Scalar.remsi v765 c32_i32_286
  let c1_i32_288 : BitVec 32 := 1#32
  let v767 : BitVec 32 := Scalar.muli v766 c1_i32_288
  let v768 : BitVec 32 := Scalar.addi c0_i32_289 v767
  v768.toNat
def k0_dev7 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v769 : BitVec 32 := Scalar.addi v2 c7_i32
  let c32_i32_290 : BitVec 32 := 32#32
  let v770 : BitVec 32 := Scalar.remsi v769 c32_i32_290
  let c1_i32_292 : BitVec 32 := 1#32
  let v771 : BitVec 32 := Scalar.muli v770 c1_i32_292
  let v772 : BitVec 32 := Scalar.addi c0_i32_293 v771
  v772.toNat
def k0_dev8 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v773 : BitVec 32 := Scalar.addi v2 c8_i32
  let c32_i32_294 : BitVec 32 := 32#32
  let v774 : BitVec 32 := Scalar.remsi v773 c32_i32_294
  let c1_i32_296 : BitVec 32 := 1#32
  let v775 : BitVec 32 := Scalar.muli v774 c1_i32_296
  let v776 : BitVec 32 := Scalar.addi c0_i32_297 v775
  v776.toNat
def k0_dev9 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v777 : BitVec 32 := Scalar.addi v2 c9_i32
  let c32_i32_298 : BitVec 32 := 32#32
  let v778 : BitVec 32 := Scalar.remsi v777 c32_i32_298
  let c1_i32_300 : BitVec 32 := 1#32
  let v779 : BitVec 32 := Scalar.muli v778 c1_i32_300
  let v780 : BitVec 32 := Scalar.addi c0_i32_301 v779
  v780.toNat
def k0_dev10 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v781 : BitVec 32 := Scalar.addi v2 c10_i32
  let c32_i32_302 : BitVec 32 := 32#32
  let v782 : BitVec 32 := Scalar.remsi v781 c32_i32_302
  let c1_i32_304 : BitVec 32 := 1#32
  let v783 : BitVec 32 := Scalar.muli v782 c1_i32_304
  let v784 : BitVec 32 := Scalar.addi c0_i32_305 v783
  v784.toNat
def k0_dev11 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v785 : BitVec 32 := Scalar.addi v2 c11_i32
  let c32_i32_306 : BitVec 32 := 32#32
  let v786 : BitVec 32 := Scalar.remsi v785 c32_i32_306
  let c1_i32_308 : BitVec 32 := 1#32
  let v787 : BitVec 32 := Scalar.muli v786 c1_i32_308
  let v788 : BitVec 32 := Scalar.addi c0_i32_309 v787
  v788.toNat
def k0_dev12 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v789 : BitVec 32 := Scalar.addi v2 c12_i32
  let c32_i32_310 : BitVec 32 := 32#32
  let v790 : BitVec 32 := Scalar.remsi v789 c32_i32_310
  let c1_i32_312 : BitVec 32 := 1#32
  let v791 : BitVec 32 := Scalar.muli v790 c1_i32_312
  let v792 : BitVec 32 := Scalar.addi c0_i32_313 v791
  v792.toNat
def k0_dev13 (d0 : Dev nD) : Nat :=
  let c0_i32_317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v793 : BitVec 32 := Scalar.addi v2 c13_i32
  let c32_i32_314 : BitVec 32 := 32#32
  let v794 : BitVec 32 := Scalar.remsi v793 c32_i32_314
  let c1_i32_316 : BitVec 32 := 1#32
  let v795 : BitVec 32 := Scalar.muli v794 c1_i32_316
  let v796 : BitVec 32 := Scalar.addi c0_i32_317 v795
  v796.toNat
def k0_dev14 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v797 : BitVec 32 := Scalar.addi v2 c14_i32
  let c32_i32_318 : BitVec 32 := 32#32
  let v798 : BitVec 32 := Scalar.remsi v797 c32_i32_318
  let c1_i32_320 : BitVec 32 := 1#32
  let v799 : BitVec 32 := Scalar.muli v798 c1_i32_320
  let v800 : BitVec 32 := Scalar.addi c0_i32_321 v799
  v800.toNat
def k0_dev15 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v801 : BitVec 32 := Scalar.addi v2 c15_i32
  let c32_i32_322 : BitVec 32 := 32#32
  let v802 : BitVec 32 := Scalar.remsi v801 c32_i32_322
  let c1_i32_324 : BitVec 32 := 1#32
  let v803 : BitVec 32 := Scalar.muli v802 c1_i32_324
  let v804 : BitVec 32 := Scalar.addi c0_i32_325 v803
  v804.toNat
def k0_dev16 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v805 : BitVec 32 := Scalar.addi v2 c16_i32
  let c32_i32_326 : BitVec 32 := 32#32
  let v806 : BitVec 32 := Scalar.remsi v805 c32_i32_326
  let c1_i32_328 : BitVec 32 := 1#32
  let v807 : BitVec 32 := Scalar.muli v806 c1_i32_328
  let v808 : BitVec 32 := Scalar.addi c0_i32_329 v807
  v808.toNat
def k0_dev17 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v809 : BitVec 32 := Scalar.addi v2 c17_i32
  let c32_i32_330 : BitVec 32 := 32#32
  let v810 : BitVec 32 := Scalar.remsi v809 c32_i32_330
  let c1_i32_332 : BitVec 32 := 1#32
  let v811 : BitVec 32 := Scalar.muli v810 c1_i32_332
  let v812 : BitVec 32 := Scalar.addi c0_i32_333 v811
  v812.toNat
def k0_dev18 (d0 : Dev nD) : Nat :=
  let c0_i32_337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v813 : BitVec 32 := Scalar.addi v2 c18_i32
  let c32_i32_334 : BitVec 32 := 32#32
  let v814 : BitVec 32 := Scalar.remsi v813 c32_i32_334
  let c1_i32_336 : BitVec 32 := 1#32
  let v815 : BitVec 32 := Scalar.muli v814 c1_i32_336
  let v816 : BitVec 32 := Scalar.addi c0_i32_337 v815
  v816.toNat
def k0_dev19 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v817 : BitVec 32 := Scalar.addi v2 c19_i32
  let c32_i32_338 : BitVec 32 := 32#32
  let v818 : BitVec 32 := Scalar.remsi v817 c32_i32_338
  let c1_i32_340 : BitVec 32 := 1#32
  let v819 : BitVec 32 := Scalar.muli v818 c1_i32_340
  let v820 : BitVec 32 := Scalar.addi c0_i32_341 v819
  v820.toNat
def k0_dev20 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v821 : BitVec 32 := Scalar.addi v2 c20_i32
  let c32_i32_342 : BitVec 32 := 32#32
  let v822 : BitVec 32 := Scalar.remsi v821 c32_i32_342
  let c1_i32_344 : BitVec 32 := 1#32
  let v823 : BitVec 32 := Scalar.muli v822 c1_i32_344
  let v824 : BitVec 32 := Scalar.addi c0_i32_345 v823
  v824.toNat
def k0_dev21 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v825 : BitVec 32 := Scalar.addi v2 c21_i32
  let c32_i32_346 : BitVec 32 := 32#32
  let v826 : BitVec 32 := Scalar.remsi v825 c32_i32_346
  let c1_i32_348 : BitVec 32 := 1#32
  let v827 : BitVec 32 := Scalar.muli v826 c1_i32_348
  let v828 : BitVec 32 := Scalar.addi c0_i32_349 v827
  v828.toNat
def k0_dev22 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v829 : BitVec 32 := Scalar.addi v2 c22_i32
  let c32_i32_350 : BitVec 32 := 32#32
  let v830 : BitVec 32 := Scalar.remsi v829 c32_i32_350
  let c1_i32_352 : BitVec 32 := 1#32
  let v831 : BitVec 32 := Scalar.muli v830 c1_i32_352
  let v832 : BitVec 32 := Scalar.addi c0_i32_353 v831
  v832.toNat
def k0_dev23 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v833 : BitVec 32 := Scalar.addi v2 c23_i32
  let c32_i32_354 : BitVec 32 := 32#32
  let v834 : BitVec 32 := Scalar.remsi v833 c32_i32_354
  let c1_i32_356 : BitVec 32 := 1#32
  let v835 : BitVec 32 := Scalar.muli v834 c1_i32_356
  let v836 : BitVec 32 := Scalar.addi c0_i32_357 v835
  v836.toNat
def k0_dev24 (d0 : Dev nD) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v837 : BitVec 32 := Scalar.addi v2 c24_i32
  let c32_i32_358 : BitVec 32 := 32#32
  let v838 : BitVec 32 := Scalar.remsi v837 c32_i32_358
  let c1_i32_360 : BitVec 32 := 1#32
  let v839 : BitVec 32 := Scalar.muli v838 c1_i32_360
  let v840 : BitVec 32 := Scalar.addi c0_i32_361 v839
  v840.toNat
def k0_dev25 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v841 : BitVec 32 := Scalar.addi v2 c25_i32
  let c32_i32_362 : BitVec 32 := 32#32
  let v842 : BitVec 32 := Scalar.remsi v841 c32_i32_362
  let c1_i32_364 : BitVec 32 := 1#32
  let v843 : BitVec 32 := Scalar.muli v842 c1_i32_364
  let v844 : BitVec 32 := Scalar.addi c0_i32_365 v843
  v844.toNat
def k0_dev26 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v845 : BitVec 32 := Scalar.addi v2 c26_i32
  let c32_i32_366 : BitVec 32 := 32#32
  let v846 : BitVec 32 := Scalar.remsi v845 c32_i32_366
  let c1_i32_368 : BitVec 32 := 1#32
  let v847 : BitVec 32 := Scalar.muli v846 c1_i32_368
  let v848 : BitVec 32 := Scalar.addi c0_i32_369 v847
  v848.toNat
def k0_dev27 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v849 : BitVec 32 := Scalar.addi v2 c27_i32
  let c32_i32_370 : BitVec 32 := 32#32
  let v850 : BitVec 32 := Scalar.remsi v849 c32_i32_370
  let c1_i32_372 : BitVec 32 := 1#32
  let v851 : BitVec 32 := Scalar.muli v850 c1_i32_372
  let v852 : BitVec 32 := Scalar.addi c0_i32_373 v851
  v852.toNat
def k0_dev28 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v853 : BitVec 32 := Scalar.addi v2 c28_i32
  let c32_i32_374 : BitVec 32 := 32#32
  let v854 : BitVec 32 := Scalar.remsi v853 c32_i32_374
  let c1_i32_376 : BitVec 32 := 1#32
  let v855 : BitVec 32 := Scalar.muli v854 c1_i32_376
  let v856 : BitVec 32 := Scalar.addi c0_i32_377 v855
  v856.toNat
def k0_dev29 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v857 : BitVec 32 := Scalar.addi v2 c29_i32
  let c32_i32_378 : BitVec 32 := 32#32
  let v858 : BitVec 32 := Scalar.remsi v857 c32_i32_378
  let c1_i32_380 : BitVec 32 := 1#32
  let v859 : BitVec 32 := Scalar.muli v858 c1_i32_380
  let v860 : BitVec 32 := Scalar.addi c0_i32_381 v859
  v860.toNat
def k0_dev30 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v861 : BitVec 32 := Scalar.addi v2 c30_i32
  let c32_i32_382 : BitVec 32 := 32#32
  let v862 : BitVec 32 := Scalar.remsi v861 c32_i32_382
  let c1_i32_384 : BitVec 32 := 1#32
  let v863 : BitVec 32 := Scalar.muli v862 c1_i32_384
  let v864 : BitVec 32 := Scalar.addi c0_i32_385 v863
  v864.toNat
def k0_dev31 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v865 : BitVec 32 := Scalar.addi v2 c31_i32
  let c32_i32_386 : BitVec 32 := 32#32
  let v866 : BitVec 32 := Scalar.remsi v865 c32_i32_386
  let c1_i32_388 : BitVec 32 := 1#32
  let v867 : BitVec 32 := Scalar.muli v866 c1_i32_388
  let v868 : BitVec 32 := Scalar.addi c0_i32_389 v867
  v868.toNat
def k0_off1 (d0 : Dev nD) (c1_i32_391 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v869 : BitVec 32 := Scalar.addi v2 c1_i32_391
  let c32_i32_392 : BitVec 32 := 32#32
  let v870 : BitVec 32 := Scalar.remsi v869 c32_i32_392
  let c32_i32_393 : BitVec 32 := 32#32
  let v871 : BitVec 32 := Scalar.muli v870 c32_i32_393
  let c0_i32_491 : BitVec 32 := 0#32
  ![v871.toNat, 0]
def k0_dev32 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_391 : BitVec 32 := 1#32
  let v869 : BitVec 32 := Scalar.addi v2 c1_i32_391
  let c32_i32_392 : BitVec 32 := 32#32
  let v870 : BitVec 32 := Scalar.remsi v869 c32_i32_392
  let c1_i32_487 : BitVec 32 := 1#32
  let v962 : BitVec 32 := Scalar.muli v870 c1_i32_487
  let v963 : BitVec 32 := Scalar.addi c0_i32_488 v962
  v963.toNat
def k0_dev33 (d0 : Dev nD) : Nat :=
  let c0_i32_496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_394 : BitVec 32 := 2#32
  let v872 : BitVec 32 := Scalar.addi v2 c2_i32_394
  let c32_i32_395 : BitVec 32 := 32#32
  let v873 : BitVec 32 := Scalar.remsi v872 c32_i32_395
  let c1_i32_495 : BitVec 32 := 1#32
  let v971 : BitVec 32 := Scalar.muli v873 c1_i32_495
  let v972 : BitVec 32 := Scalar.addi c0_i32_496 v971
  v972.toNat
def k0_dev34 (d0 : Dev nD) : Nat :=
  let c0_i32_504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_397 : BitVec 32 := 3#32
  let v875 : BitVec 32 := Scalar.addi v2 c3_i32_397
  let c32_i32_398 : BitVec 32 := 32#32
  let v876 : BitVec 32 := Scalar.remsi v875 c32_i32_398
  let c1_i32_503 : BitVec 32 := 1#32
  let v980 : BitVec 32 := Scalar.muli v876 c1_i32_503
  let v981 : BitVec 32 := Scalar.addi c0_i32_504 v980
  v981.toNat
def k0_dev35 (d0 : Dev nD) : Nat :=
  let c0_i32_512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_400 : BitVec 32 := 4#32
  let v878 : BitVec 32 := Scalar.addi v2 c4_i32_400
  let c32_i32_401 : BitVec 32 := 32#32
  let v879 : BitVec 32 := Scalar.remsi v878 c32_i32_401
  let c1_i32_511 : BitVec 32 := 1#32
  let v989 : BitVec 32 := Scalar.muli v879 c1_i32_511
  let v990 : BitVec 32 := Scalar.addi c0_i32_512 v989
  v990.toNat
def k0_dev36 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_403 : BitVec 32 := 5#32
  let v881 : BitVec 32 := Scalar.addi v2 c5_i32_403
  let c32_i32_404 : BitVec 32 := 32#32
  let v882 : BitVec 32 := Scalar.remsi v881 c32_i32_404
  let c1_i32_519 : BitVec 32 := 1#32
  let v998 : BitVec 32 := Scalar.muli v882 c1_i32_519
  let v999 : BitVec 32 := Scalar.addi c0_i32_520 v998
  v999.toNat
def k0_dev37 (d0 : Dev nD) : Nat :=
  let c0_i32_528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_406 : BitVec 32 := 6#32
  let v884 : BitVec 32 := Scalar.addi v2 c6_i32_406
  let c32_i32_407 : BitVec 32 := 32#32
  let v885 : BitVec 32 := Scalar.remsi v884 c32_i32_407
  let c1_i32_527 : BitVec 32 := 1#32
  let v1007 : BitVec 32 := Scalar.muli v885 c1_i32_527
  let v1008 : BitVec 32 := Scalar.addi c0_i32_528 v1007
  v1008.toNat
def k0_dev38 (d0 : Dev nD) : Nat :=
  let c0_i32_536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_409 : BitVec 32 := 7#32
  let v887 : BitVec 32 := Scalar.addi v2 c7_i32_409
  let c32_i32_410 : BitVec 32 := 32#32
  let v888 : BitVec 32 := Scalar.remsi v887 c32_i32_410
  let c1_i32_535 : BitVec 32 := 1#32
  let v1016 : BitVec 32 := Scalar.muli v888 c1_i32_535
  let v1017 : BitVec 32 := Scalar.addi c0_i32_536 v1016
  v1017.toNat
def k0_dev39 (d0 : Dev nD) : Nat :=
  let c0_i32_544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_412 : BitVec 32 := 8#32
  let v890 : BitVec 32 := Scalar.addi v2 c8_i32_412
  let c32_i32_413 : BitVec 32 := 32#32
  let v891 : BitVec 32 := Scalar.remsi v890 c32_i32_413
  let c1_i32_543 : BitVec 32 := 1#32
  let v1025 : BitVec 32 := Scalar.muli v891 c1_i32_543
  let v1026 : BitVec 32 := Scalar.addi c0_i32_544 v1025
  v1026.toNat
def k0_dev40 (d0 : Dev nD) : Nat :=
  let c0_i32_552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_415 : BitVec 32 := 9#32
  let v893 : BitVec 32 := Scalar.addi v2 c9_i32_415
  let c32_i32_416 : BitVec 32 := 32#32
  let v894 : BitVec 32 := Scalar.remsi v893 c32_i32_416
  let c1_i32_551 : BitVec 32 := 1#32
  let v1034 : BitVec 32 := Scalar.muli v894 c1_i32_551
  let v1035 : BitVec 32 := Scalar.addi c0_i32_552 v1034
  v1035.toNat
def k0_dev41 (d0 : Dev nD) : Nat :=
  let c0_i32_560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_418 : BitVec 32 := 10#32
  let v896 : BitVec 32 := Scalar.addi v2 c10_i32_418
  let c32_i32_419 : BitVec 32 := 32#32
  let v897 : BitVec 32 := Scalar.remsi v896 c32_i32_419
  let c1_i32_559 : BitVec 32 := 1#32
  let v1043 : BitVec 32 := Scalar.muli v897 c1_i32_559
  let v1044 : BitVec 32 := Scalar.addi c0_i32_560 v1043
  v1044.toNat
def k0_dev42 (d0 : Dev nD) : Nat :=
  let c0_i32_568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_421 : BitVec 32 := 11#32
  let v899 : BitVec 32 := Scalar.addi v2 c11_i32_421
  let c32_i32_422 : BitVec 32 := 32#32
  let v900 : BitVec 32 := Scalar.remsi v899 c32_i32_422
  let c1_i32_567 : BitVec 32 := 1#32
  let v1052 : BitVec 32 := Scalar.muli v900 c1_i32_567
  let v1053 : BitVec 32 := Scalar.addi c0_i32_568 v1052
  v1053.toNat
def k0_dev43 (d0 : Dev nD) : Nat :=
  let c0_i32_576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_424 : BitVec 32 := 12#32
  let v902 : BitVec 32 := Scalar.addi v2 c12_i32_424
  let c32_i32_425 : BitVec 32 := 32#32
  let v903 : BitVec 32 := Scalar.remsi v902 c32_i32_425
  let c1_i32_575 : BitVec 32 := 1#32
  let v1061 : BitVec 32 := Scalar.muli v903 c1_i32_575
  let v1062 : BitVec 32 := Scalar.addi c0_i32_576 v1061
  v1062.toNat
def k0_dev44 (d0 : Dev nD) : Nat :=
  let c0_i32_584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_427 : BitVec 32 := 13#32
  let v905 : BitVec 32 := Scalar.addi v2 c13_i32_427
  let c32_i32_428 : BitVec 32 := 32#32
  let v906 : BitVec 32 := Scalar.remsi v905 c32_i32_428
  let c1_i32_583 : BitVec 32 := 1#32
  let v1070 : BitVec 32 := Scalar.muli v906 c1_i32_583
  let v1071 : BitVec 32 := Scalar.addi c0_i32_584 v1070
  v1071.toNat
def k0_dev45 (d0 : Dev nD) : Nat :=
  let c0_i32_592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_430 : BitVec 32 := 14#32
  let v908 : BitVec 32 := Scalar.addi v2 c14_i32_430
  let c32_i32_431 : BitVec 32 := 32#32
  let v909 : BitVec 32 := Scalar.remsi v908 c32_i32_431
  let c1_i32_591 : BitVec 32 := 1#32
  let v1079 : BitVec 32 := Scalar.muli v909 c1_i32_591
  let v1080 : BitVec 32 := Scalar.addi c0_i32_592 v1079
  v1080.toNat
def k0_dev46 (d0 : Dev nD) : Nat :=
  let c0_i32_600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_433 : BitVec 32 := 15#32
  let v911 : BitVec 32 := Scalar.addi v2 c15_i32_433
  let c32_i32_434 : BitVec 32 := 32#32
  let v912 : BitVec 32 := Scalar.remsi v911 c32_i32_434
  let c1_i32_599 : BitVec 32 := 1#32
  let v1088 : BitVec 32 := Scalar.muli v912 c1_i32_599
  let v1089 : BitVec 32 := Scalar.addi c0_i32_600 v1088
  v1089.toNat
def k0_dev47 (d0 : Dev nD) : Nat :=
  let c0_i32_608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_436 : BitVec 32 := 16#32
  let v914 : BitVec 32 := Scalar.addi v2 c16_i32_436
  let c32_i32_437 : BitVec 32 := 32#32
  let v915 : BitVec 32 := Scalar.remsi v914 c32_i32_437
  let c1_i32_607 : BitVec 32 := 1#32
  let v1097 : BitVec 32 := Scalar.muli v915 c1_i32_607
  let v1098 : BitVec 32 := Scalar.addi c0_i32_608 v1097
  v1098.toNat
def k0_dev48 (d0 : Dev nD) : Nat :=
  let c0_i32_616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_439 : BitVec 32 := 17#32
  let v917 : BitVec 32 := Scalar.addi v2 c17_i32_439
  let c32_i32_440 : BitVec 32 := 32#32
  let v918 : BitVec 32 := Scalar.remsi v917 c32_i32_440
  let c1_i32_615 : BitVec 32 := 1#32
  let v1106 : BitVec 32 := Scalar.muli v918 c1_i32_615
  let v1107 : BitVec 32 := Scalar.addi c0_i32_616 v1106
  v1107.toNat
def k0_dev49 (d0 : Dev nD) : Nat :=
  let c0_i32_624 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_442 : BitVec 32 := 18#32
  let v920 : BitVec 32 := Scalar.addi v2 c18_i32_442
  let c32_i32_443 : BitVec 32 := 32#32
  let v921 : BitVec 32 := Scalar.remsi v920 c32_i32_443
  let c1_i32_623 : BitVec 32 := 1#32
  let v1115 : BitVec 32 := Scalar.muli v921 c1_i32_623
  let v1116 : BitVec 32 := Scalar.addi c0_i32_624 v1115
  v1116.toNat
def k0_dev50 (d0 : Dev nD) : Nat :=
  let c0_i32_632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_445 : BitVec 32 := 19#32
  let v923 : BitVec 32 := Scalar.addi v2 c19_i32_445
  let c32_i32_446 : BitVec 32 := 32#32
  let v924 : BitVec 32 := Scalar.remsi v923 c32_i32_446
  let c1_i32_631 : BitVec 32 := 1#32
  let v1124 : BitVec 32 := Scalar.muli v924 c1_i32_631
  let v1125 : BitVec 32 := Scalar.addi c0_i32_632 v1124
  v1125.toNat
def k0_dev51 (d0 : Dev nD) : Nat :=
  let c0_i32_640 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_448 : BitVec 32 := 20#32
  let v926 : BitVec 32 := Scalar.addi v2 c20_i32_448
  let c32_i32_449 : BitVec 32 := 32#32
  let v927 : BitVec 32 := Scalar.remsi v926 c32_i32_449
  let c1_i32_639 : BitVec 32 := 1#32
  let v1133 : BitVec 32 := Scalar.muli v927 c1_i32_639
  let v1134 : BitVec 32 := Scalar.addi c0_i32_640 v1133
  v1134.toNat
def k0_dev52 (d0 : Dev nD) : Nat :=
  let c0_i32_648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_451 : BitVec 32 := 21#32
  let v929 : BitVec 32 := Scalar.addi v2 c21_i32_451
  let c32_i32_452 : BitVec 32 := 32#32
  let v930 : BitVec 32 := Scalar.remsi v929 c32_i32_452
  let c1_i32_647 : BitVec 32 := 1#32
  let v1142 : BitVec 32 := Scalar.muli v930 c1_i32_647
  let v1143 : BitVec 32 := Scalar.addi c0_i32_648 v1142
  v1143.toNat
def k0_dev53 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_454 : BitVec 32 := 22#32
  let v932 : BitVec 32 := Scalar.addi v2 c22_i32_454
  let c32_i32_455 : BitVec 32 := 32#32
  let v933 : BitVec 32 := Scalar.remsi v932 c32_i32_455
  let c1_i32_655 : BitVec 32 := 1#32
  let v1151 : BitVec 32 := Scalar.muli v933 c1_i32_655
  let v1152 : BitVec 32 := Scalar.addi c0_i32_656 v1151
  v1152.toNat
def k0_dev54 (d0 : Dev nD) : Nat :=
  let c0_i32_664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_457 : BitVec 32 := 23#32
  let v935 : BitVec 32 := Scalar.addi v2 c23_i32_457
  let c32_i32_458 : BitVec 32 := 32#32
  let v936 : BitVec 32 := Scalar.remsi v935 c32_i32_458
  let c1_i32_663 : BitVec 32 := 1#32
  let v1160 : BitVec 32 := Scalar.muli v936 c1_i32_663
  let v1161 : BitVec 32 := Scalar.addi c0_i32_664 v1160
  v1161.toNat
def k0_dev55 (d0 : Dev nD) : Nat :=
  let c0_i32_672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_460 : BitVec 32 := 24#32
  let v938 : BitVec 32 := Scalar.addi v2 c24_i32_460
  let c32_i32_461 : BitVec 32 := 32#32
  let v939 : BitVec 32 := Scalar.remsi v938 c32_i32_461
  let c1_i32_671 : BitVec 32 := 1#32
  let v1169 : BitVec 32 := Scalar.muli v939 c1_i32_671
  let v1170 : BitVec 32 := Scalar.addi c0_i32_672 v1169
  v1170.toNat
def k0_dev56 (d0 : Dev nD) : Nat :=
  let c0_i32_680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_463 : BitVec 32 := 25#32
  let v941 : BitVec 32 := Scalar.addi v2 c25_i32_463
  let c32_i32_464 : BitVec 32 := 32#32
  let v942 : BitVec 32 := Scalar.remsi v941 c32_i32_464
  let c1_i32_679 : BitVec 32 := 1#32
  let v1178 : BitVec 32 := Scalar.muli v942 c1_i32_679
  let v1179 : BitVec 32 := Scalar.addi c0_i32_680 v1178
  v1179.toNat
def k0_dev57 (d0 : Dev nD) : Nat :=
  let c0_i32_688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_466 : BitVec 32 := 26#32
  let v944 : BitVec 32 := Scalar.addi v2 c26_i32_466
  let c32_i32_467 : BitVec 32 := 32#32
  let v945 : BitVec 32 := Scalar.remsi v944 c32_i32_467
  let c1_i32_687 : BitVec 32 := 1#32
  let v1187 : BitVec 32 := Scalar.muli v945 c1_i32_687
  let v1188 : BitVec 32 := Scalar.addi c0_i32_688 v1187
  v1188.toNat
def k0_dev58 (d0 : Dev nD) : Nat :=
  let c0_i32_696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_469 : BitVec 32 := 27#32
  let v947 : BitVec 32 := Scalar.addi v2 c27_i32_469
  let c32_i32_470 : BitVec 32 := 32#32
  let v948 : BitVec 32 := Scalar.remsi v947 c32_i32_470
  let c1_i32_695 : BitVec 32 := 1#32
  let v1196 : BitVec 32 := Scalar.muli v948 c1_i32_695
  let v1197 : BitVec 32 := Scalar.addi c0_i32_696 v1196
  v1197.toNat
def k0_dev59 (d0 : Dev nD) : Nat :=
  let c0_i32_704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_472 : BitVec 32 := 28#32
  let v950 : BitVec 32 := Scalar.addi v2 c28_i32_472
  let c32_i32_473 : BitVec 32 := 32#32
  let v951 : BitVec 32 := Scalar.remsi v950 c32_i32_473
  let c1_i32_703 : BitVec 32 := 1#32
  let v1205 : BitVec 32 := Scalar.muli v951 c1_i32_703
  let v1206 : BitVec 32 := Scalar.addi c0_i32_704 v1205
  v1206.toNat
def k0_dev60 (d0 : Dev nD) : Nat :=
  let c0_i32_712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_475 : BitVec 32 := 29#32
  let v953 : BitVec 32 := Scalar.addi v2 c29_i32_475
  let c32_i32_476 : BitVec 32 := 32#32
  let v954 : BitVec 32 := Scalar.remsi v953 c32_i32_476
  let c1_i32_711 : BitVec 32 := 1#32
  let v1214 : BitVec 32 := Scalar.muli v954 c1_i32_711
  let v1215 : BitVec 32 := Scalar.addi c0_i32_712 v1214
  v1215.toNat
def k0_dev61 (d0 : Dev nD) : Nat :=
  let c0_i32_720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_478 : BitVec 32 := 30#32
  let v956 : BitVec 32 := Scalar.addi v2 c30_i32_478
  let c32_i32_479 : BitVec 32 := 32#32
  let v957 : BitVec 32 := Scalar.remsi v956 c32_i32_479
  let c1_i32_719 : BitVec 32 := 1#32
  let v1223 : BitVec 32 := Scalar.muli v957 c1_i32_719
  let v1224 : BitVec 32 := Scalar.addi c0_i32_720 v1223
  v1224.toNat
def k0_dev62 (d0 : Dev nD) : Nat :=
  let c0_i32_728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_481 : BitVec 32 := 31#32
  let v959 : BitVec 32 := Scalar.addi v2 c31_i32_481
  let c32_i32_482 : BitVec 32 := 32#32
  let v960 : BitVec 32 := Scalar.remsi v959 c32_i32_482
  let c1_i32_727 : BitVec 32 := 1#32
  let v1232 : BitVec 32 := Scalar.muli v960 c1_i32_727
  let v1233 : BitVec 32 := Scalar.addi c0_i32_728 v1232
  v1233.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_732 : BitVec 32 := 32#32
  let v1241 : BitVec 32 := Scalar.muli v2 c32_i32_732
  let v1242 : Index := Scalar.indexCast v1241
  let c0_733 : Index := 0#32
  ![v1242.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1265 : BitVec 32 := 32#32
  let v1746 : BitVec 32 := Scalar.muli v2 c32_i32_1265
  let c0_i32_1360 : BitVec 32 := 0#32
  ![v1746.toNat, 0]
def k0_dev63 (d0 : Dev nD) : Nat :=
  let c0_i32_1359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1263 : BitVec 32 := 1#32
  let v1744 : BitVec 32 := Scalar.addi v2 c1_i32_1263
  let c32_i32_1264 : BitVec 32 := 32#32
  let v1745 : BitVec 32 := Scalar.remsi v1744 c32_i32_1264
  let c1_i32_1358 : BitVec 32 := 1#32
  let v1837 : BitVec 32 := Scalar.muli v1745 c1_i32_1358
  let v1838 : BitVec 32 := Scalar.addi c0_i32_1359 v1837
  v1838.toNat
def k0_dev64 (d0 : Dev nD) : Nat :=
  let c0_i32_1364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1266 : BitVec 32 := 2#32
  let v1747 : BitVec 32 := Scalar.addi v2 c2_i32_1266
  let c32_i32_1267 : BitVec 32 := 32#32
  let v1748 : BitVec 32 := Scalar.remsi v1747 c32_i32_1267
  let c1_i32_1363 : BitVec 32 := 1#32
  let v1844 : BitVec 32 := Scalar.muli v1748 c1_i32_1363
  let v1845 : BitVec 32 := Scalar.addi c0_i32_1364 v1844
  v1845.toNat
def k0_dev65 (d0 : Dev nD) : Nat :=
  let c0_i32_1369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1269 : BitVec 32 := 3#32
  let v1750 : BitVec 32 := Scalar.addi v2 c3_i32_1269
  let c32_i32_1270 : BitVec 32 := 32#32
  let v1751 : BitVec 32 := Scalar.remsi v1750 c32_i32_1270
  let c1_i32_1368 : BitVec 32 := 1#32
  let v1851 : BitVec 32 := Scalar.muli v1751 c1_i32_1368
  let v1852 : BitVec 32 := Scalar.addi c0_i32_1369 v1851
  v1852.toNat
def k0_dev66 (d0 : Dev nD) : Nat :=
  let c0_i32_1374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1272 : BitVec 32 := 4#32
  let v1753 : BitVec 32 := Scalar.addi v2 c4_i32_1272
  let c32_i32_1273 : BitVec 32 := 32#32
  let v1754 : BitVec 32 := Scalar.remsi v1753 c32_i32_1273
  let c1_i32_1373 : BitVec 32 := 1#32
  let v1858 : BitVec 32 := Scalar.muli v1754 c1_i32_1373
  let v1859 : BitVec 32 := Scalar.addi c0_i32_1374 v1858
  v1859.toNat
def k0_dev67 (d0 : Dev nD) : Nat :=
  let c0_i32_1379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1275 : BitVec 32 := 5#32
  let v1756 : BitVec 32 := Scalar.addi v2 c5_i32_1275
  let c32_i32_1276 : BitVec 32 := 32#32
  let v1757 : BitVec 32 := Scalar.remsi v1756 c32_i32_1276
  let c1_i32_1378 : BitVec 32 := 1#32
  let v1865 : BitVec 32 := Scalar.muli v1757 c1_i32_1378
  let v1866 : BitVec 32 := Scalar.addi c0_i32_1379 v1865
  v1866.toNat
def k0_dev68 (d0 : Dev nD) : Nat :=
  let c0_i32_1384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1278 : BitVec 32 := 6#32
  let v1759 : BitVec 32 := Scalar.addi v2 c6_i32_1278
  let c32_i32_1279 : BitVec 32 := 32#32
  let v1760 : BitVec 32 := Scalar.remsi v1759 c32_i32_1279
  let c1_i32_1383 : BitVec 32 := 1#32
  let v1872 : BitVec 32 := Scalar.muli v1760 c1_i32_1383
  let v1873 : BitVec 32 := Scalar.addi c0_i32_1384 v1872
  v1873.toNat
def k0_dev69 (d0 : Dev nD) : Nat :=
  let c0_i32_1389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1281 : BitVec 32 := 7#32
  let v1762 : BitVec 32 := Scalar.addi v2 c7_i32_1281
  let c32_i32_1282 : BitVec 32 := 32#32
  let v1763 : BitVec 32 := Scalar.remsi v1762 c32_i32_1282
  let c1_i32_1388 : BitVec 32 := 1#32
  let v1879 : BitVec 32 := Scalar.muli v1763 c1_i32_1388
  let v1880 : BitVec 32 := Scalar.addi c0_i32_1389 v1879
  v1880.toNat
def k0_dev70 (d0 : Dev nD) : Nat :=
  let c0_i32_1394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1284 : BitVec 32 := 8#32
  let v1765 : BitVec 32 := Scalar.addi v2 c8_i32_1284
  let c32_i32_1285 : BitVec 32 := 32#32
  let v1766 : BitVec 32 := Scalar.remsi v1765 c32_i32_1285
  let c1_i32_1393 : BitVec 32 := 1#32
  let v1886 : BitVec 32 := Scalar.muli v1766 c1_i32_1393
  let v1887 : BitVec 32 := Scalar.addi c0_i32_1394 v1886
  v1887.toNat
def k0_dev71 (d0 : Dev nD) : Nat :=
  let c0_i32_1399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1287 : BitVec 32 := 9#32
  let v1768 : BitVec 32 := Scalar.addi v2 c9_i32_1287
  let c32_i32_1288 : BitVec 32 := 32#32
  let v1769 : BitVec 32 := Scalar.remsi v1768 c32_i32_1288
  let c1_i32_1398 : BitVec 32 := 1#32
  let v1893 : BitVec 32 := Scalar.muli v1769 c1_i32_1398
  let v1894 : BitVec 32 := Scalar.addi c0_i32_1399 v1893
  v1894.toNat
def k0_dev72 (d0 : Dev nD) : Nat :=
  let c0_i32_1404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1290 : BitVec 32 := 10#32
  let v1771 : BitVec 32 := Scalar.addi v2 c10_i32_1290
  let c32_i32_1291 : BitVec 32 := 32#32
  let v1772 : BitVec 32 := Scalar.remsi v1771 c32_i32_1291
  let c1_i32_1403 : BitVec 32 := 1#32
  let v1900 : BitVec 32 := Scalar.muli v1772 c1_i32_1403
  let v1901 : BitVec 32 := Scalar.addi c0_i32_1404 v1900
  v1901.toNat
def k0_dev73 (d0 : Dev nD) : Nat :=
  let c0_i32_1409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1293 : BitVec 32 := 11#32
  let v1774 : BitVec 32 := Scalar.addi v2 c11_i32_1293
  let c32_i32_1294 : BitVec 32 := 32#32
  let v1775 : BitVec 32 := Scalar.remsi v1774 c32_i32_1294
  let c1_i32_1408 : BitVec 32 := 1#32
  let v1907 : BitVec 32 := Scalar.muli v1775 c1_i32_1408
  let v1908 : BitVec 32 := Scalar.addi c0_i32_1409 v1907
  v1908.toNat
def k0_dev74 (d0 : Dev nD) : Nat :=
  let c0_i32_1414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1296 : BitVec 32 := 12#32
  let v1777 : BitVec 32 := Scalar.addi v2 c12_i32_1296
  let c32_i32_1297 : BitVec 32 := 32#32
  let v1778 : BitVec 32 := Scalar.remsi v1777 c32_i32_1297
  let c1_i32_1413 : BitVec 32 := 1#32
  let v1914 : BitVec 32 := Scalar.muli v1778 c1_i32_1413
  let v1915 : BitVec 32 := Scalar.addi c0_i32_1414 v1914
  v1915.toNat
def k0_dev75 (d0 : Dev nD) : Nat :=
  let c0_i32_1419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1299 : BitVec 32 := 13#32
  let v1780 : BitVec 32 := Scalar.addi v2 c13_i32_1299
  let c32_i32_1300 : BitVec 32 := 32#32
  let v1781 : BitVec 32 := Scalar.remsi v1780 c32_i32_1300
  let c1_i32_1418 : BitVec 32 := 1#32
  let v1921 : BitVec 32 := Scalar.muli v1781 c1_i32_1418
  let v1922 : BitVec 32 := Scalar.addi c0_i32_1419 v1921
  v1922.toNat
def k0_dev76 (d0 : Dev nD) : Nat :=
  let c0_i32_1424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1302 : BitVec 32 := 14#32
  let v1783 : BitVec 32 := Scalar.addi v2 c14_i32_1302
  let c32_i32_1303 : BitVec 32 := 32#32
  let v1784 : BitVec 32 := Scalar.remsi v1783 c32_i32_1303
  let c1_i32_1423 : BitVec 32 := 1#32
  let v1928 : BitVec 32 := Scalar.muli v1784 c1_i32_1423
  let v1929 : BitVec 32 := Scalar.addi c0_i32_1424 v1928
  v1929.toNat
def k0_dev77 (d0 : Dev nD) : Nat :=
  let c0_i32_1429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1305 : BitVec 32 := 15#32
  let v1786 : BitVec 32 := Scalar.addi v2 c15_i32_1305
  let c32_i32_1306 : BitVec 32 := 32#32
  let v1787 : BitVec 32 := Scalar.remsi v1786 c32_i32_1306
  let c1_i32_1428 : BitVec 32 := 1#32
  let v1935 : BitVec 32 := Scalar.muli v1787 c1_i32_1428
  let v1936 : BitVec 32 := Scalar.addi c0_i32_1429 v1935
  v1936.toNat
def k0_dev78 (d0 : Dev nD) : Nat :=
  let c0_i32_1434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1308 : BitVec 32 := 16#32
  let v1789 : BitVec 32 := Scalar.addi v2 c16_i32_1308
  let c32_i32_1309 : BitVec 32 := 32#32
  let v1790 : BitVec 32 := Scalar.remsi v1789 c32_i32_1309
  let c1_i32_1433 : BitVec 32 := 1#32
  let v1942 : BitVec 32 := Scalar.muli v1790 c1_i32_1433
  let v1943 : BitVec 32 := Scalar.addi c0_i32_1434 v1942
  v1943.toNat
def k0_dev79 (d0 : Dev nD) : Nat :=
  let c0_i32_1439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1311 : BitVec 32 := 17#32
  let v1792 : BitVec 32 := Scalar.addi v2 c17_i32_1311
  let c32_i32_1312 : BitVec 32 := 32#32
  let v1793 : BitVec 32 := Scalar.remsi v1792 c32_i32_1312
  let c1_i32_1438 : BitVec 32 := 1#32
  let v1949 : BitVec 32 := Scalar.muli v1793 c1_i32_1438
  let v1950 : BitVec 32 := Scalar.addi c0_i32_1439 v1949
  v1950.toNat
def k0_dev80 (d0 : Dev nD) : Nat :=
  let c0_i32_1444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1314 : BitVec 32 := 18#32
  let v1795 : BitVec 32 := Scalar.addi v2 c18_i32_1314
  let c32_i32_1315 : BitVec 32 := 32#32
  let v1796 : BitVec 32 := Scalar.remsi v1795 c32_i32_1315
  let c1_i32_1443 : BitVec 32 := 1#32
  let v1956 : BitVec 32 := Scalar.muli v1796 c1_i32_1443
  let v1957 : BitVec 32 := Scalar.addi c0_i32_1444 v1956
  v1957.toNat
def k0_dev81 (d0 : Dev nD) : Nat :=
  let c0_i32_1449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1317 : BitVec 32 := 19#32
  let v1798 : BitVec 32 := Scalar.addi v2 c19_i32_1317
  let c32_i32_1318 : BitVec 32 := 32#32
  let v1799 : BitVec 32 := Scalar.remsi v1798 c32_i32_1318
  let c1_i32_1448 : BitVec 32 := 1#32
  let v1963 : BitVec 32 := Scalar.muli v1799 c1_i32_1448
  let v1964 : BitVec 32 := Scalar.addi c0_i32_1449 v1963
  v1964.toNat
def k0_dev82 (d0 : Dev nD) : Nat :=
  let c0_i32_1454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1320 : BitVec 32 := 20#32
  let v1801 : BitVec 32 := Scalar.addi v2 c20_i32_1320
  let c32_i32_1321 : BitVec 32 := 32#32
  let v1802 : BitVec 32 := Scalar.remsi v1801 c32_i32_1321
  let c1_i32_1453 : BitVec 32 := 1#32
  let v1970 : BitVec 32 := Scalar.muli v1802 c1_i32_1453
  let v1971 : BitVec 32 := Scalar.addi c0_i32_1454 v1970
  v1971.toNat
def k0_dev83 (d0 : Dev nD) : Nat :=
  let c0_i32_1459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1323 : BitVec 32 := 21#32
  let v1804 : BitVec 32 := Scalar.addi v2 c21_i32_1323
  let c32_i32_1324 : BitVec 32 := 32#32
  let v1805 : BitVec 32 := Scalar.remsi v1804 c32_i32_1324
  let c1_i32_1458 : BitVec 32 := 1#32
  let v1977 : BitVec 32 := Scalar.muli v1805 c1_i32_1458
  let v1978 : BitVec 32 := Scalar.addi c0_i32_1459 v1977
  v1978.toNat
def k0_dev84 (d0 : Dev nD) : Nat :=
  let c0_i32_1464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1326 : BitVec 32 := 22#32
  let v1807 : BitVec 32 := Scalar.addi v2 c22_i32_1326
  let c32_i32_1327 : BitVec 32 := 32#32
  let v1808 : BitVec 32 := Scalar.remsi v1807 c32_i32_1327
  let c1_i32_1463 : BitVec 32 := 1#32
  let v1984 : BitVec 32 := Scalar.muli v1808 c1_i32_1463
  let v1985 : BitVec 32 := Scalar.addi c0_i32_1464 v1984
  v1985.toNat
def k0_dev85 (d0 : Dev nD) : Nat :=
  let c0_i32_1469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1329 : BitVec 32 := 23#32
  let v1810 : BitVec 32 := Scalar.addi v2 c23_i32_1329
  let c32_i32_1330 : BitVec 32 := 32#32
  let v1811 : BitVec 32 := Scalar.remsi v1810 c32_i32_1330
  let c1_i32_1468 : BitVec 32 := 1#32
  let v1991 : BitVec 32 := Scalar.muli v1811 c1_i32_1468
  let v1992 : BitVec 32 := Scalar.addi c0_i32_1469 v1991
  v1992.toNat
def k0_dev86 (d0 : Dev nD) : Nat :=
  let c0_i32_1474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1332 : BitVec 32 := 24#32
  let v1813 : BitVec 32 := Scalar.addi v2 c24_i32_1332
  let c32_i32_1333 : BitVec 32 := 32#32
  let v1814 : BitVec 32 := Scalar.remsi v1813 c32_i32_1333
  let c1_i32_1473 : BitVec 32 := 1#32
  let v1998 : BitVec 32 := Scalar.muli v1814 c1_i32_1473
  let v1999 : BitVec 32 := Scalar.addi c0_i32_1474 v1998
  v1999.toNat
def k0_dev87 (d0 : Dev nD) : Nat :=
  let c0_i32_1479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1335 : BitVec 32 := 25#32
  let v1816 : BitVec 32 := Scalar.addi v2 c25_i32_1335
  let c32_i32_1336 : BitVec 32 := 32#32
  let v1817 : BitVec 32 := Scalar.remsi v1816 c32_i32_1336
  let c1_i32_1478 : BitVec 32 := 1#32
  let v2005 : BitVec 32 := Scalar.muli v1817 c1_i32_1478
  let v2006 : BitVec 32 := Scalar.addi c0_i32_1479 v2005
  v2006.toNat
def k0_dev88 (d0 : Dev nD) : Nat :=
  let c0_i32_1484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1338 : BitVec 32 := 26#32
  let v1819 : BitVec 32 := Scalar.addi v2 c26_i32_1338
  let c32_i32_1339 : BitVec 32 := 32#32
  let v1820 : BitVec 32 := Scalar.remsi v1819 c32_i32_1339
  let c1_i32_1483 : BitVec 32 := 1#32
  let v2012 : BitVec 32 := Scalar.muli v1820 c1_i32_1483
  let v2013 : BitVec 32 := Scalar.addi c0_i32_1484 v2012
  v2013.toNat
def k0_dev89 (d0 : Dev nD) : Nat :=
  let c0_i32_1489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1341 : BitVec 32 := 27#32
  let v1822 : BitVec 32 := Scalar.addi v2 c27_i32_1341
  let c32_i32_1342 : BitVec 32 := 32#32
  let v1823 : BitVec 32 := Scalar.remsi v1822 c32_i32_1342
  let c1_i32_1488 : BitVec 32 := 1#32
  let v2019 : BitVec 32 := Scalar.muli v1823 c1_i32_1488
  let v2020 : BitVec 32 := Scalar.addi c0_i32_1489 v2019
  v2020.toNat
def k0_dev90 (d0 : Dev nD) : Nat :=
  let c0_i32_1494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1344 : BitVec 32 := 28#32
  let v1825 : BitVec 32 := Scalar.addi v2 c28_i32_1344
  let c32_i32_1345 : BitVec 32 := 32#32
  let v1826 : BitVec 32 := Scalar.remsi v1825 c32_i32_1345
  let c1_i32_1493 : BitVec 32 := 1#32
  let v2026 : BitVec 32 := Scalar.muli v1826 c1_i32_1493
  let v2027 : BitVec 32 := Scalar.addi c0_i32_1494 v2026
  v2027.toNat
def k0_dev91 (d0 : Dev nD) : Nat :=
  let c0_i32_1499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1347 : BitVec 32 := 29#32
  let v1828 : BitVec 32 := Scalar.addi v2 c29_i32_1347
  let c32_i32_1348 : BitVec 32 := 32#32
  let v1829 : BitVec 32 := Scalar.remsi v1828 c32_i32_1348
  let c1_i32_1498 : BitVec 32 := 1#32
  let v2033 : BitVec 32 := Scalar.muli v1829 c1_i32_1498
  let v2034 : BitVec 32 := Scalar.addi c0_i32_1499 v2033
  v2034.toNat
def k0_dev92 (d0 : Dev nD) : Nat :=
  let c0_i32_1504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1350 : BitVec 32 := 30#32
  let v1831 : BitVec 32 := Scalar.addi v2 c30_i32_1350
  let c32_i32_1351 : BitVec 32 := 32#32
  let v1832 : BitVec 32 := Scalar.remsi v1831 c32_i32_1351
  let c1_i32_1503 : BitVec 32 := 1#32
  let v2040 : BitVec 32 := Scalar.muli v1832 c1_i32_1503
  let v2041 : BitVec 32 := Scalar.addi c0_i32_1504 v2040
  v2041.toNat
def k0_dev93 (d0 : Dev nD) : Nat :=
  let c0_i32_1509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1353 : BitVec 32 := 31#32
  let v1834 : BitVec 32 := Scalar.addi v2 c31_i32_1353
  let c32_i32_1354 : BitVec 32 := 32#32
  let v1835 : BitVec 32 := Scalar.remsi v1834 c32_i32_1354
  let c1_i32_1508 : BitVec 32 := 1#32
  let v2047 : BitVec 32 := Scalar.muli v1835 c1_i32_1508
  let v2048 : BitVec 32 := Scalar.addi c0_i32_1509 v2047
  v2048.toNat
def k0_off4 (d0 : Dev nD) (c1_i32_1513 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2057 : BitVec 32 := Scalar.subi v2 c1_i32_1513
  let c32_i32_1514 : BitVec 32 := 32#32
  let v2058 : BitVec 32 := Scalar.addi v2057 c32_i32_1514
  let c32_i32_1515 : BitVec 32 := 32#32
  let v2059 : BitVec 32 := Scalar.remsi v2058 c32_i32_1515
  let c32_i32_1516 : BitVec 32 := 32#32
  let v2060 : BitVec 32 := Scalar.muli v2059 c32_i32_1516
  let c0_i32_1521 : BitVec 32 := 0#32
  ![v2060.toNat, 0]
def k0_off5 (d0 : Dev nD) (c1_i32_1522 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2066 : BitVec 32 := Scalar.subi v2 c1_i32_1522
  let c32_i32_1523 : BitVec 32 := 32#32
  let v2067 : BitVec 32 := Scalar.addi v2066 c32_i32_1523
  let c32_i32_1524 : BitVec 32 := 32#32
  let v2068 : BitVec 32 := Scalar.remsi v2067 c32_i32_1524
  let c32_i32_1525 : BitVec 32 := 32#32
  let v2069 : BitVec 32 := Scalar.muli v2068 c32_i32_1525
  let v2070 : Index := Scalar.indexCast v2069
  let c0_1526 : Index := 0#32
  ![v2070.toNat, 0]
abbrev stage0_0 : Fin 1 → Memref sig .tc .vmem S2x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x1024 : Shape := ⟨3, ![2, 512, 1024]⟩
abbrev S1024x32768 : Shape := ⟨2, ![1024, 32768]⟩
abbrev S32768x1024 : Shape := ⟨2, ![32768, 1024]⟩
abbrev S64 : Shape := ⟨1, ![64]⟩
abbrev S_ : Shape := ⟨0, ![]⟩
abbrev S512 : Shape := ⟨1, ![512]⟩
abbrev S512x1 : Shape := ⟨2, ![512, 1]⟩
abbrev S1x64 : Shape := ⟨2, ![1, 64]⟩
abbrev S512x64 : Shape := ⟨2, ![512, 64]⟩
abbrev S512x64x2 : Shape := ⟨3, ![512, 64, 2]⟩
abbrev S512x128 : Shape := ⟨2, ![512, 128]⟩
abbrev S2x512x32768 : Shape := ⟨3, ![2, 512, 32768]⟩
abbrev S2x512x256x128 : Shape := ⟨4, ![2, 512, 256, 128]⟩
abbrev S2x512x256x64x2 : Shape := ⟨5, ![2, 512, 256, 64, 2]⟩
abbrev S2x512x256x64x1 : Shape := ⟨5, ![2, 512, 256, 64, 1]⟩
abbrev S2x512x256x64 : Shape := ⟨4, ![2, 512, 256, 64]⟩
abbrev S1x512x1x128 : Shape := ⟨4, ![1, 512, 1, 128]⟩
abbrev S2x256x512x512 : Shape := ⟨4, ![2, 256, 512, 512]⟩
abbrev S2x256x512 : Shape := ⟨3, ![2, 256, 512]⟩
abbrev S2x256x512x1 : Shape := ⟨4, ![2, 256, 512, 1]⟩
abbrev S2x256x128x512 : Shape := ⟨4, ![2, 256, 128, 512]⟩
abbrev S1024x1024 : Shape := ⟨2, ![1024, 1024]⟩

abbrev nBuf : Space → Nat
  | .hbm => 95
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S1024x32768, .f32⟩
  | .hbm, ⟨2, _⟩ => ⟨S1024x32768, .f32⟩
  | .hbm, ⟨3, _⟩ => ⟨S1024x32768, .f32⟩
  | .hbm, ⟨4, _⟩ => ⟨S32768x1024, .f32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S512, .i32⟩
  | .hbm, ⟨23, _⟩ => ⟨S512x1, .i32⟩
  | .hbm, ⟨24, _⟩ => ⟨S1x64, .f32⟩
  | .hbm, ⟨25, _⟩ => ⟨S512x1, .f32⟩
  | .hbm, ⟨26, _⟩ => ⟨S512x64, .f32⟩
  | .hbm, ⟨27, _⟩ => ⟨S512x64, .f32⟩
  | .hbm, ⟨28, _⟩ => ⟨S512x64, .f32⟩
  | .hbm, ⟨29, _⟩ => ⟨S512x64, .f32⟩
  | .hbm, ⟨30, _⟩ => ⟨S512x64x2, .f32⟩
  | .hbm, ⟨31, _⟩ => ⟨S512x128, .f32⟩
  | .hbm, ⟨32, _⟩ => ⟨S512x64, .f32⟩
  | .hbm, ⟨33, _⟩ => ⟨S512x64x2, .f32⟩
  | .hbm, ⟨34, _⟩ => ⟨S512x128, .f32⟩
  | .hbm, ⟨35, _⟩ => ⟨S2x512x32768, .f32⟩
  | .hbm, ⟨36, _⟩ => ⟨S2x512x256x128, .f32⟩
  | .hbm, ⟨37, _⟩ => ⟨S2x512x256x64x2, .f32⟩
  | .hbm, ⟨38, _⟩ => ⟨S2x512x256x64x1, .f32⟩
  | .hbm, ⟨39, _⟩ => ⟨S2x512x256x64, .f32⟩
  | .hbm, ⟨40, _⟩ => ⟨S2x512x256x64, .f32⟩
  | .hbm, ⟨41, _⟩ => ⟨S2x512x256x64x1, .f32⟩
  | .hbm, ⟨42, _⟩ => ⟨S2x512x256x64, .f32⟩
  | .hbm, ⟨43, _⟩ => ⟨S2x512x256x64x1, .f32⟩
  | .hbm, ⟨44, _⟩ => ⟨S2x512x256x64x1, .f32⟩
  | .hbm, ⟨45, _⟩ => ⟨S2x512x256x64x2, .f32⟩
  | .hbm, ⟨46, _⟩ => ⟨S2x512x256x128, .f32⟩
  | .hbm, ⟨47, _⟩ => ⟨S1x512x1x128, .f32⟩
  | .hbm, ⟨48, _⟩ => ⟨S2x512x256x128, .f32⟩
  | .hbm, ⟨49, _⟩ => ⟨S2x512x256x128, .f32⟩
  | .hbm, ⟨50, _⟩ => ⟨S1x512x1x128, .f32⟩
  | .hbm, ⟨51, _⟩ => ⟨S2x512x256x128, .f32⟩
  | .hbm, ⟨52, _⟩ => ⟨S2x512x256x128, .f32⟩
  | .hbm, ⟨53, _⟩ => ⟨S2x512x256x128, .f32⟩
  | .hbm, ⟨54, _⟩ => ⟨S2x512x32768, .f32⟩
  | .hbm, ⟨55, _⟩ => ⟨S2x512x256x128, .f32⟩
  | .hbm, ⟨56, _⟩ => ⟨S2x512x256x64x2, .f32⟩
  | .hbm, ⟨57, _⟩ => ⟨S2x512x256x64x1, .f32⟩
  | .hbm, ⟨58, _⟩ => ⟨S2x512x256x64, .f32⟩
  | .hbm, ⟨59, _⟩ => ⟨S2x512x256x64, .f32⟩
  | .hbm, ⟨60, _⟩ => ⟨S2x512x256x64x1, .f32⟩
  | .hbm, ⟨61, _⟩ => ⟨S2x512x256x64, .f32⟩
  | .hbm, ⟨62, _⟩ => ⟨S2x512x256x64x1, .f32⟩
  | .hbm, ⟨63, _⟩ => ⟨S2x512x256x64x1, .f32⟩
  | .hbm, ⟨64, _⟩ => ⟨S2x512x256x64x2, .f32⟩
  | .hbm, ⟨65, _⟩ => ⟨S2x512x256x128, .f32⟩
  | .hbm, ⟨66, _⟩ => ⟨S1x512x1x128, .f32⟩
  | .hbm, ⟨67, _⟩ => ⟨S2x512x256x128, .f32⟩
  | .hbm, ⟨68, _⟩ => ⟨S2x512x256x128, .f32⟩
  | .hbm, ⟨69, _⟩ => ⟨S1x512x1x128, .f32⟩
  | .hbm, ⟨70, _⟩ => ⟨S2x512x256x128, .f32⟩
  | .hbm, ⟨71, _⟩ => ⟨S2x512x256x128, .f32⟩
  | .hbm, ⟨72, _⟩ => ⟨S2x512x256x128, .f32⟩
  | .hbm, ⟨73, _⟩ => ⟨S2x512x32768, .f32⟩
  | .hbm, ⟨74, _⟩ => ⟨S2x512x256x128, .f32⟩
  | .hbm, ⟨75, _⟩ => ⟨S2x256x512x512, .f32⟩
  | .hbm, ⟨76, _⟩ => ⟨S_, .f32⟩
  | .hbm, ⟨77, _⟩ => ⟨S2x256x512x512, .f32⟩
  | .hbm, ⟨78, _⟩ => ⟨S2x256x512x512, .f32⟩
  | .hbm, ⟨79, _⟩ => ⟨S_, .f32⟩
  | .hbm, ⟨80, _⟩ => ⟨S2x256x512, .f32⟩
  | .hbm, ⟨81, _⟩ => ⟨S2x256x512x1, .f32⟩
  | .hbm, ⟨82, _⟩ => ⟨S2x256x512x512, .f32⟩
  | .hbm, ⟨83, _⟩ => ⟨S2x256x512x512, .f32⟩
  | .hbm, ⟨84, _⟩ => ⟨S2x256x512x512, .f32⟩
  | .hbm, ⟨85, _⟩ => ⟨S_, .f32⟩
  | .hbm, ⟨86, _⟩ => ⟨S2x256x512, .f32⟩
  | .hbm, ⟨87, _⟩ => ⟨S2x256x512x1, .f32⟩
  | .hbm, ⟨88, _⟩ => ⟨S2x256x512x512, .f32⟩
  | .hbm, ⟨89, _⟩ => ⟨S2x256x512x512, .f32⟩
  | .hbm, ⟨90, _⟩ => ⟨S2x256x128x512, .f32⟩
  | .hbm, ⟨91, _⟩ => ⟨S2x512x256x128, .f32⟩
  | .hbm, ⟨92, _⟩ => ⟨S2x512x32768, .f32⟩
  | .hbm, ⟨93, _⟩ => ⟨S2x512x1024, .f32⟩
  | .hbm, ⟨94, _⟩ => ⟨S1024x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩

abbrev nD : Nat := 1
abbrev τ : Topo := Topo.v7x

variable {F : FTy → Type} [FloatOps F]
-- ==== Proof.Protocol.lean ====
/-
# The exchange between the 32 devices: buffers, semaphores, and who hands what to whom

Every device `c` runs the same kernel. Step `j` (`1 ≤ j < 32`) of every phase concerns the device `peer c j`, `j` places
further round the mesh.

* Barrier: device `c` signals every other device once. With its signal to `peer c j` it hands over slot `32 - j` of its gather
  buffer and the rows of its 16-bit result that `peer c j` will fill in.
* Reduce-scatter: device `c` sends rows `peer c j` of its 16-bit partial product into slot `j` of that device's gather buffer.
* All-gather: device `c` sends its reduced rows into rows `c` of the 16-bit result of `peer c j`.

The send semaphores serve both transfers, so each has two rounds; every other semaphore has one. The contents that travel are
parameters here: `P16 c`, device `c`'s 16-bit partial product, and `RED c`, its reduced rows.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-! ## The resource algebra: the pipeline's copy and the exchange's (duties named by numbers) -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The mesh -/

/-- The device `j` places after `c`. -/
def peer (c : Dev nD) (j : ℕ) : Dev nD := ⟨(c.val + j) % 32, Nat.mod_lt _ (by decide)⟩

theorem peer_val (c : Dev nD) (j : ℕ) : (peer c j).val = (c.val + j) % 32 := rfl

theorem dlt (c : Dev nD) : c.val < 32 := c.isLt

/-- Going `j` on and then `32 - j` on comes back. -/
theorem peer_back (c : Dev nD) {j : ℕ} (hj : j ≤ 32) : peer (peer c j) (32 - j) = c := by
  apply Fin.ext; have := dlt c; rw [peer_val, peer_val]; omega

theorem peer_back' (c : Dev nD) {j : ℕ} (hj : j ≤ 32) : peer (peer c (32 - j)) j = c := by
  apply Fin.ext; have := dlt c; rw [peer_val, peer_val]; omega

/-- Moving every device `j` on, as a permutation. -/
def shift (j : ℕ) (hj : j ≤ 32) : Dev nD ≃ Dev nD := ⟨(peer · j), (peer · (32 - j)), fun c => peer_back c hj, fun c => peer_back' c hj⟩

theorem peer_inj (c : Dev nD) {j j' : ℕ} (hj : j < 32) (hj' : j' < 32) (h : peer c j = peer c j') : j = j' := by
  have h1 := congrArg Fin.val h; have := dlt c; rw [peer_val, peer_val] at h1; omega

/-! ## The semaphores -/

/-- DMA semaphore number `q`. -/
def ds (q : ℕ) : DmaSem sig := ⟨q % 102, Nat.mod_lt _ (by decide)⟩

theorem ds_val {q : ℕ} (h : q < 102) : (ds q).val = q := Nat.mod_eq_of_lt h

abbrev barCell (d : Dev nD) : GSem nD τ sig := ((d : Thread nD τ), .reg barrier0)
/-- Send semaphore `j`, receive semaphore `j` of the reduce-scatter and of the all-gather. -/
abbrev sS (j : ℕ) : SemLoc sig := .dma (ds (6 + j))
abbrev sR (j : ℕ) : SemLoc sig := .dma (ds (38 + j))
abbrev sG (j : ℕ) : SemLoc sig := .dma (ds (70 + j))

/-- The kernel's own semaphores: the barrier first, then the 96 DMA semaphores. -/
def csem (i : Fin 97) : SemLoc sig := if i.val = 0 then .reg barrier0 else .dma (ds (5 + i.val))
abbrev kcell (x : Dev nD × Fin 97) : GSem nD τ sig := ((x.1 : Thread nD τ), csem x.2)

/-- The number of DMA semaphore `q` among them. -/
def ix (q : ℕ) : Fin 97 := ⟨(q - 5) % 97, Nat.mod_lt _ (by decide)⟩

theorem csem_zero : csem 0 = .reg barrier0 := rfl
theorem csem_ix {q : ℕ} (h6 : 6 ≤ q) (h : q < 102) : csem (ix q) = .dma (ds q) := by
  have hv : (ix q).val = q - 5 := Nat.mod_eq_of_lt (by omega)
  unfold csem; rw [hv, if_neg (by omega), show 5 + (q - 5) = q by omega]

/-! ## The pieces of the buffers -/

/-- Rows `32 t … 32 t + 31` of a 1024 × 1024 array. -/
def rowsOf (t : ℕ) : Finset S1024x1024.Idx := Finset.univ.filter fun i => (i 0).val / 32 = t
/-- Slot `j` of a gather buffer. -/
def slotOf (j : ℕ) : Finset S32x32x1024.Idx := Finset.univ.filter fun i => (i 0).val = j

abbrev C1024 (e : EltTy) : Type := S1024x1024.Idx → Elt F e

/-- One transfer's credit: that of 32 × 1024 16-bit elements. -/
abbrev N : ℕ := (Memref.whole cc0_scratch6 : Memref sig .tc .vmem S32x1024 .bf16).view.dmaCredit
theorem N_pos : 0 < N := View.dmaCredit_pos _ (by decide)

section Pts
variable (d : Dev nD)

def p16Rows (t : ℕ) (f : S1024x1024.Idx → Elt F .bf16) : sProp 𝕄 := ((d : Thread nD τ).loc cc0_scratch4) ↦[rowsOf t]{fullShare} f
def gatSlot (j : ℕ) (f : S32x32x1024.Idx → Elt F .bf16) : sProp 𝕄 := ((d : Thread nD τ).loc cc0_scratch5) ↦[slotOf j]{fullShare} f
def redPts (q : PosShare TreeShare) (f : S32x1024.Idx → Elt F .bf16) : sProp 𝕄 := ((d : Thread nD τ).loc cc0_scratch6) ↦{q} f
def o16Rows (t : ℕ) (f : S1024x1024.Idx → Elt F .bf16) : sProp 𝕄 := ((d : Thread nD τ).loc cc0_scratch7) ↦[rowsOf t]{fullShare} f

instance (t : ℕ) (f) : BI.Storable (upEmb : UEmb _ 𝕄) (p16Rows (F := F) d t f) := by unfold p16Rows; infer_instance
instance (t : ℕ) (f) : BI.Storable (upEmb : UEmb _ 𝕄) (gatSlot (F := F) d t f) := by unfold gatSlot; infer_instance
instance (q) (f) : BI.Storable (upEmb : UEmb _ 𝕄) (redPts (F := F) d q f) := by unfold redPts; infer_instance
instance (t : ℕ) (f) : BI.Storable (upEmb : UEmb _ 𝕄) (o16Rows (F := F) d t f) := by unfold o16Rows; infer_instance

end Pts

/-! ## What travels -/

variable (P16 : Dev nD → S1024x1024.Idx → Elt F .bf16) (RED : Dev nD → S32x1024.Idx → Elt F .bf16)

/-- Row `32 c + r` of a 1024-row array, and back. -/
def rowIx (c : Dev nD) (r : Fin 32) : Fin 1024 := ⟨32 * c.val + r.val, by have := dlt c; have := r.isLt; omega⟩
def rowDev (i : Fin 1024) : Dev nD := ⟨i.val / 32, by have := i.isLt; show _ < 32; omega⟩
def rowIn (i : Fin 1024) : Fin 32 := ⟨i.val % 32, Nat.mod_lt _ (by decide)⟩

/-- What the gather buffer of `c` holds once every slot has arrived: slot `j` comes from the device `j` places before. -/
def gatOf (c : Dev nD) : S32x32x1024.Idx → Elt F .bf16 :=
  fun i => P16 (peer c (32 - (i 0).val)) (ix2 (rowIx c (i 1)) (i 2))

/-- What the 16-bit result holds on every device once every block of rows has arrived. -/
def o16Of : S1024x1024.Idx → Elt F .bf16 := fun i => RED (rowDev (i 0)) (ix2 (rowIn (i 0)) (i 1))

/-! ## The schedule -/

/-- What the signal of `peer d k` hands `d`: slot `k` of its gather buffer and the rows of its 16-bit result meant for `d`. -/
def barPay (d : Dev nD) (k : ℕ) : sProp 𝕄 := iprop((∃ f, gatSlot (peer d k) k f) ∗ ∃ f, o16Rows (peer d k) d.val f)

/-- What a transfer's semaphores hand over: the send semaphores the rows sent (first round) or the share of the reduced rows
    (second), the receive semaphores the piece that arrived. -/
def dmaPay (d : Dev nD) (q r : ℕ) : sProp 𝕄 :=
  if q < 38 then (if r = 0 then p16Rows d (peer d (q - 6)).val (P16 d) else redPts d (Transfers.shareTokN fullShare (q - 6)) (RED d))
  else if q < 70 then gatSlot d (q - 38) (gatOf P16 d)
  else o16Rows d (peer d (32 - (q - 70))).val (o16Of RED)

/-- The duties of a DMA semaphore: two rounds for the send semaphores, one for the others; semaphore 0 of each array is unused. -/
def dmaDuties (q r : ℕ) : Finset ℕ :=
  if (7 ≤ q ∧ q < 38) ∧ r < 2 then {0}
  else if ((39 ≤ q ∧ q < 70) ∨ (71 ≤ q ∧ q < 102)) ∧ r = 0 then {0} else ∅

def sched : Rounds.Schedule (GSem nD τ sig) ℕ 𝕄 where
  duties g r := if g.1.2 = .tc then (match g.2 with | .reg _ => if r = 0 then Finset.Ico 1 32 else ∅ | .dma q => dmaDuties q.val r) else ∅
  unitless _ := False
  amount g _ _ := match g.2 with | .reg _ => 1 | .dma _ => N
  payload g r k := match g.2 with | .reg _ => barPay g.1.1 k | .dma q => dmaPay P16 RED g.1.1 q.val r
  amount_pos g _ _ _ := by
    rcases g with ⟨t, _ | q⟩
    · exact Nat.one_pos
    · exact N_pos

instance sched_storable (g : GSem nD τ sig) (r k : ℕ) : BI.Storable (upEmb : UEmb _ 𝕄) ((sched (F := F) P16 RED).payload g r k) := by
  rcases g with ⟨t, _ | q⟩
  · show BI.Storable upEmb (barPay (F := F) t.1 k); unfold barPay; infer_instance
  · show BI.Storable upEmb (dmaPay P16 RED t.1 q.val r); unfold dmaPay; (repeat' split) <;> infer_instance

section Sched
variable (c : Dev nD)

omit [FloatOps F] in
theorem duties_bar : (sched (F := F) P16 RED).duties (barCell c) 0 = Finset.Ico 1 32 := rfl
omit [FloatOps F] in
theorem duties_bar_later {r : ℕ} (hr : 1 ≤ r) : (sched (F := F) P16 RED).duties (barCell c) r = ∅ := by
  show (if r = 0 then Finset.Ico 1 32 else ∅) = ∅; exact if_neg (by omega)
omit [FloatOps F] in
theorem duties_dma (q r : ℕ) (hq : q < 102) : (sched (F := F) P16 RED).duties ((c : Thread nD τ), .dma (ds q)) r = dmaDuties q r := by
  show dmaDuties (ds q).val r = _; rw [ds_val hq]

omit [FloatOps F] in
theorem duties_send {j r : ℕ} (h1 : 1 ≤ j) (hj : j < 32) (hr : r < 2) : (sched (F := F) P16 RED).duties ((c : Thread nD τ), sS j) r = {0} := by
  rw [duties_dma _ _ _ _ _ (by omega)]; exact if_pos (by omega)
omit [FloatOps F] in
theorem duties_recv {j : ℕ} (h1 : 1 ≤ j) (hj : j < 32) : (sched (F := F) P16 RED).duties ((c : Thread nD τ), sR j) 0 = {0} := by
  rw [duties_dma _ _ _ _ _ (by omega)]; unfold dmaDuties; rw [if_neg (by omega)]; exact if_pos (by omega)
omit [FloatOps F] in
theorem duties_gath {j : ℕ} (h1 : 1 ≤ j) (hj : j < 32) : (sched (F := F) P16 RED).duties ((c : Thread nD τ), sG j) 0 = {0} := by
  rw [duties_dma _ _ _ _ _ (by omega)]; unfold dmaDuties; rw [if_neg (by omega)]; exact if_pos (by omega)
omit [FloatOps F] in
/-- The rounds a cell goes through. -/
theorem duties_end (sm : SemLoc sig) (R : ℕ)
    (h : match sm with | .reg _ => 1 ≤ R | .dma q => ((7 ≤ q.val ∧ q.val < 38) → 2 ≤ R) ∧ ((39 ≤ q.val ∧ q.val < 70) ∨ (71 ≤ q.val ∧ q.val < 102) → 1 ≤ R)) :
    ∀ r, R ≤ r → (sched (F := F) P16 RED).duties ((c : Thread nD τ), sm) r = ∅ := by
  intro r hr
  rcases sm with s | q
  · show (if r = 0 then Finset.Ico 1 32 else ∅) = ∅
    have h : 1 ≤ R := h
    exact if_neg (by omega)
  · show dmaDuties q.val r = ∅
    obtain ⟨h1, h2⟩ := h
    unfold dmaDuties; rw [if_neg (by omega), if_neg (by omega)]

omit [FloatOps F] in
theorem expect_bar : (sched (F := F) P16 RED).expect (barCell c) 0 = 31 := by
  unfold Schedule.expect Schedule.amountOf
  rw [duties_bar]; show (∑ _ ∈ Finset.Ico 1 32, 1) = 31; rfl
omit [FloatOps F] in
theorem expect_dma {q r : ℕ} (h : (sched (F := F) P16 RED).duties ((c : Thread nD τ), .dma (ds q)) r = {0}) :
    (sched (F := F) P16 RED).expect ((c : Thread nD τ), .dma (ds q)) r = N := by
  unfold Schedule.expect Schedule.amountOf
  rw [h, Finset.sum_singleton]; rfl

omit [FloatOps F] in
theorem payload_dma (q r k : ℕ) (hq : q < 102) :
    (sched (F := F) P16 RED).payload ((c : Thread nD τ), .dma (ds q)) r k = dmaPay P16 RED c q r := by
  show dmaPay P16 RED c (ds q).val r = _; rw [ds_val hq]
omit [FloatOps F] in
theorem pay_send0 {j : ℕ} (hj : j < 32) (k : ℕ) :
    (sched (F := F) P16 RED).payload ((c : Thread nD τ), sS j) 0 k = p16Rows c (peer c j).val (P16 c) := by
  rw [payload_dma _ _ _ _ _ _ (by omega)]; unfold dmaPay
  rw [if_pos (by omega), if_pos rfl, show 6 + j - 6 = j by omega]
omit [FloatOps F] in
theorem pay_send1 {j : ℕ} (hj : j < 32) (k : ℕ) :
    (sched (F := F) P16 RED).payload ((c : Thread nD τ), sS j) 1 k = redPts c (Transfers.shareTokN fullShare j) (RED c) := by
  rw [payload_dma _ _ _ _ _ _ (by omega)]; unfold dmaPay
  rw [if_pos (by omega), if_neg (by omega), show 6 + j - 6 = j by omega]
omit [FloatOps F] in
theorem pay_recv {j : ℕ} (hj : j < 32) (k : ℕ) :
    (sched (F := F) P16 RED).payload ((c : Thread nD τ), sR j) 0 k = gatSlot c j (gatOf P16 c) := by
  rw [payload_dma _ _ _ _ _ _ (by omega)]; unfold dmaPay
  rw [if_neg (by omega), if_pos (by omega), show 38 + j - 38 = j by omega]
omit [FloatOps F] in
theorem pay_gath {j : ℕ} (hj : j < 32) (k : ℕ) :
    (sched (F := F) P16 RED).payload ((c : Thread nD τ), sG j) 0 k = o16Rows c (peer c (32 - j)).val (o16Of RED) := by
  rw [payload_dma _ _ _ _ _ _ (by omega)]; unfold dmaPay
  rw [if_neg (by omega), if_neg (by omega), show 70 + j - 70 = j by omega]

omit [FloatOps F] in
/-- The payloads of a round with the one duty `0`. -/
theorem rest_one {g : GSem nD τ sig} {r : ℕ} (h : (sched (F := F) P16 RED).duties g r = {0}) :
    bigSep ((sched (F := F) P16 RED).duties g r \ ∅) (fun d => (sched (F := F) P16 RED).payload g r d) = (sched (F := F) P16 RED).payload g r 0 := by
  rw [Finset.sdiff_empty, h, bigSep_singleton]

end Sched

/-! ## What each device owes at launch; the levels -/

/-- The signals, the reduce-scatter's arrivals and the all-gather's arrivals that `c` still owes from step `n` on. -/
def owB (c : Dev nD) (n : ℕ) : CellTallies nD τ sig Unit := ∑ j ∈ Finset.Ico n 32, tallyAt (barCell (peer c j)) () 1
def owR (c : Dev nD) (n : ℕ) : CellTallies nD τ sig Unit := ∑ j ∈ Finset.Ico n 32, tallyAt ((peer c j : Thread nD τ), sR j) () N
def owG (c : Dev nD) (n : ℕ) : CellTallies nD τ sig Unit := ∑ j ∈ Finset.Ico n 32, tallyAt ((peer c j : Thread nD τ), sG j) () N

def O₀ (c : Dev nD) : CellTallies nD τ sig Unit := owB c 1 + (owR c 1 + owG c 1)

theorem Ico_step {n : ℕ} (h : n < 32) : Finset.Ico n 32 = insert n (Finset.Ico (n + 1) 32) := by
  ext a; rw [Finset.mem_insert, Finset.mem_Ico, Finset.mem_Ico]; omega
theorem sum_step {n : ℕ} (h : n < 32) (f : ℕ → CellTallies nD τ sig Unit) :
    ∑ j ∈ Finset.Ico n 32, f j = (∑ j ∈ Finset.Ico (n + 1) 32, f j) + f n := by
  rw [Ico_step h, Finset.sum_insert (fun hm => by have := Finset.mem_Ico.mp hm; omega), add_comm]

theorem owB_succ (c : Dev nD) {n : ℕ} (h : n < 32) : owB c n = owB c (n + 1) + tallyAt (barCell (peer c n)) () 1 := by
  unfold owB; exact sum_step h _
theorem owR_succ (c : Dev nD) {n : ℕ} (h : n < 32) : owR c n = owR c (n + 1) + tallyAt ((peer c n : Thread nD τ), sR n) () N := by
  unfold owR; exact sum_step h _
theorem owG_succ (c : Dev nD) {n : ℕ} (h : n < 32) : owG c n = owG c (n + 1) + tallyAt ((peer c n : Thread nD τ), sG n) () N := by
  unfold owG; exact sum_step h _
theorem owB_end (c : Dev nD) : owB c 32 = 0 := rfl
theorem owR_end (c : Dev nD) : owR c 32 = 0 := rfl
theorem owG_end (c : Dev nD) : owG c 32 = 0 := rfl

def L (g : GSem nD τ sig) : Finset Unit := if g.1.2 = .tc then {()} else ∅
/-- Barrier semaphores at 1, the reduce-scatter's receive semaphores at 2, the all-gather's at 3, all others at 0. -/
def lv (g : GSem nD τ sig) (_ : Unit) : ℕ := match g.2 with | .reg _ => 1 | .dma q => if q.val < 38 then 0 else if q.val < 70 then 2 else 3

theorem L_of_ne (g : GSem nD τ sig) (h : g.1.2 ≠ .tc) : L g = ∅ := if_neg h
theorem L_tc (c : Dev nD) (sm : SemLoc sig) : L ((c : Thread nD τ), sm) = {()} := if_pos rfl

theorem lv_dma (t : Thread nD τ) {q : ℕ} (hq : q < 102) (u : Unit) : lv (t, .dma (ds q)) u = if q < 38 then 0 else if q < 70 then 2 else 3 := by
  show (if (ds q).val < 38 then 0 else if (ds q).val < 70 then 2 else 3) = _; rw [ds_val hq]

/-- Everything owed after the barrier is above level `b`. -/
def Above (b : ℕ) (O : CellTallies nD τ sig Unit) : Prop := ∀ (g : GSem nD τ sig) (u : Unit), 0 < O g u → u ∈ L g ∧ b < lv g u

theorem above_zero (b : ℕ) : Above b 0 := fun g u h => absurd h (Nat.lt_irrefl 0)
theorem above_add {b : ℕ} {O O' : CellTallies nD τ sig Unit} (h : Above b O) (h' : Above b O') : Above b (O + O') := fun g u hg =>
  (Pipeline.add_pos_cases hg).elim (h g u) (h' g u)
theorem above_sum {b : ℕ} {s : Finset ℕ} {cell : ℕ → Dev nD × SemLoc sig} {k : ℕ}
    (h : ∀ j ∈ s, b < lv (((cell j).1 : Thread nD τ), (cell j).2) ()) :
    Above b (∑ j ∈ s, (tallyAt (((cell j).1 : Thread nD τ), (cell j).2) () k : CellTallies nD τ sig Unit)) := fun g u hg => by
  obtain ⟨j, hj, hp⟩ := Pipeline.sum_pos_exists hg
  obtain ⟨rfl, rfl⟩ := Pipeline.tallyAt_pos hp
  exact ⟨by rw [L_tc]; exact Finset.mem_singleton_self _, h j hj⟩

theorem above_owB {b : ℕ} (hb : b < 1) (c : Dev nD) (n : ℕ) : Above b (owB c n) :=
  above_sum (cell := fun j => (peer c j, .reg barrier0)) fun j _ => hb
theorem above_owR {b : ℕ} (hb : b < 2) (c : Dev nD) (n : ℕ) : Above b (owR c n) :=
  above_sum (cell := fun j => (peer c j, sR j)) fun j hj => by
    have := Finset.mem_Ico.mp hj
    rw [lv_dma _ (by omega), if_neg (by omega), if_pos (by omega)]; exact hb
theorem above_owG {b : ℕ} (hb : b < 3) (c : Dev nD) (n : ℕ) (hn : 0 ≤ n) : Above b (owG c n) :=
  above_sum (cell := fun j => (peer c j, sG j)) fun j hj => by
    have := Finset.mem_Ico.mp hj
    rw [lv_dma _ (by omega), if_neg (by omega), if_neg (by omega)]; exact hb

omit [FloatOps F] in
/-- A device may wait on a semaphore of its own below everything it owes. -/
theorem mayWait_of (c : Dev nD) (sm : SemLoc sig) {O : CellTallies nD τ sig Unit} {b : ℕ} (hb : lv ((c : Thread nD τ), sm) () = b) (h : Above b O) :
    (levAts L lv : sProp 𝕄) ⊢ MayWait (c : Thread nD τ) sm () O :=
  Pipeline.mayWait_of_levAts (by rw [L_tc]; exact Finset.mem_singleton_self _) fun g i hg => by rw [hb]; exact h g i hg

/-! ## The persistent records -/

variable (K : Dev nD × Fin 97 → ℕ)

/-- Every cell's invariant, under the name the launch gave it, that every cell has reached its first round, and the levels. -/
def records : sProp 𝕄 :=
  iprop((bigSep Finset.univ fun x : Dev nD × Fin 97 => cellInv ER (sched P16 RED) (K x) (kcell x))
    ∗ (bigSep Finset.univ fun x : Dev nD × Fin 97 => reached ER (kcell x) 0) ∗ levAts L lv)

instance records_persistent : BI.Persistent (records (F := F) P16 RED K) := by unfold records; infer_instance

omit [FloatOps F] in
theorem inv_at (x : Dev nD × Fin 97) : records P16 RED K ⊢ (cellInv ER (sched (F := F) P16 RED) (K x) (kcell x) : sProp 𝕄) := by
  unfold records
  exact (sep_mono_left (bigSep_elim (Finset.mem_univ x))).trans sep_elim_left
omit [FloatOps F] in
theorem reached_at (x : Dev nD × Fin 97) : records P16 RED K ⊢ (reached ER (kcell x) 0 : sProp 𝕄) := by
  have h : (bigSep Finset.univ fun x : Dev nD × Fin 97 => (reached ER (kcell x) 0 : sProp 𝕄)) ⊢ reached ER (kcell x) 0 := bigSep_elim (Finset.mem_univ x)
  unfold records
  iintro ⟨-, HR, -⟩
  iapply h; iexact HR

omit [FloatOps F] in
/-- A device may wait on a semaphore of its own below everything it owes. -/
theorem mayWait_rec (c : Dev nD) (sm : SemLoc sig) {O : CellTallies nD τ sig Unit} {b : ℕ} (hb : lv ((c : Thread nD τ), sm) () = b) (h : Above b O) :
    records P16 RED K ⊢ (MayWait (c : Thread nD τ) sm () O : sProp 𝕄) := by
  unfold records
  iintro ⟨-, -, HL⟩
  iapply (mayWait_of c sm hb h); iexact HL

omit [FloatOps F] in
theorem inv_bar (d : Dev nD) : records P16 RED K ⊢ (cellInv ER (sched (F := F) P16 RED) (K (d, 0)) (barCell d) : sProp 𝕄) := inv_at P16 RED K (d, 0)
omit [FloatOps F] in
theorem inv_dma (d : Dev nD) {q : ℕ} (h6 : 6 ≤ q) (hq : q < 102) :
    records P16 RED K ⊢ (cellInv ER (sched (F := F) P16 RED) (K (d, ix q)) ((d : Thread nD τ), .dma (ds q)) : sProp 𝕄) := by
  have h := inv_at P16 RED K (d, ix q)
  rwa [show kcell (d, ix q) = ((d : Thread nD τ), .dma (ds q)) from congrArg (Prod.mk _) (csem_ix h6 hq)] at h
omit [FloatOps F] in
theorem reached_bar (d : Dev nD) : records P16 RED K ⊢ (reached ER (barCell d) 0 : sProp 𝕄) := reached_at P16 RED K (d, 0)
omit [FloatOps F] in
theorem reached_dma (d : Dev nD) {q : ℕ} (h6 : 6 ≤ q) (hq : q < 102) :
    records P16 RED K ⊢ (reached ER ((d : Thread nD τ), .dma (ds q)) 0 : sProp 𝕄) := by
  have h := reached_at P16 RED K (d, ix q)
  rwa [show kcell (d, ix q) = ((d : Thread nD τ), .dma (ds q)) from congrArg (Prod.mk _) (csem_ix h6 hq)] at h

end Cert.Attn
end
-- ==== Proof.Steps.lean ====
/-
# One operation of the exchange at a time

Each phase has a state indexed by the step reached, and a lemma that takes the phase's operation from one state to the next. The
operation's device, semaphores and offsets are variables tied to the step by equations.
-/
module

public import proofs.«01_k».proof.Proof.Protocol
public import Idealize.SL.BI.BigOpNat
public import Idealize.ShloMosaic.Lib.Exec.Geometry
public import Idealize.ShloMosaic.Lib.Pipeline.ValueKit.Geometry

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2)

variable {F : FTy → Type} [FloatOps F]

local notation "𝕄" => MT nD τ sig Unit (Elt F) ℕ UU ℕ

/-! ## The memrefs of the exchange -/

/-- Where rows `32 t …` start; where slot `j` starts. -/
abbrev rowOff (t : ℕ) : Fin 2 → ℕ := ![32 * t, 0]
abbrev slotOff (j : ℕ) : Fin 3 → ℕ := ![j, 0, 0]

/-- A 32-row chunk of the 16-bit partial product, of the 16-bit result; a slot of the gather buffer. -/
abbrev p16M (off : Fin 2 → ℕ) (h : ∀ a, off a + S32x1024.size a ≤ S1024x1024.size a) : Memref sig .tc .vmem S32x1024 .bf16 :=
  (Memref.whole cc0_scratch4 : Memref sig .tc .vmem S1024x1024 .bf16).slice (Rect.unit (s := S1024x1024) off S32x1024.size h) (fun _ => rfl)
abbrev o16M (off : Fin 2 → ℕ) (h : ∀ a, off a + S32x1024.size a ≤ S1024x1024.size a) : Memref sig .tc .vmem S32x1024 .bf16 :=
  (Memref.whole cc0_scratch7 : Memref sig .tc .vmem S1024x1024 .bf16).slice (Rect.unit (s := S1024x1024) off S32x1024.size h) (fun _ => rfl)
abbrev gatM (off : Fin 3 → ℕ) (h : ∀ a, off a + S1x32x1024.size a ≤ S32x32x1024.size a) : Memref sig .tc .vmem S32x1024 .bf16 :=
  ((Memref.whole cc0_scratch5 : Memref sig .tc .vmem S32x32x1024 .bf16).slice (Rect.unit (s := S32x32x1024) off S1x32x1024.size h) (fun _ => rfl)).squeeze
    S32x1024 squeezes_S1x32x1024_S32x1024
abbrev redM : Memref sig .tc .vmem S32x1024 .bf16 := Memref.whole cc0_scratch6

theorem rect_rows (t : ℕ) (h : ∀ a, rowOff t a + S32x1024.size a ≤ S1024x1024.size a) :
    (Rect.unit (s := S1024x1024) (rowOff t) S32x1024.size h).set = rowsOf t := by
  ext i
  have h1 : (i 1).val < 1024 := (i 1).isLt
  rw [Rect.mem_set_unit, rowsOf, Finset.mem_filter, Fin.forall_fin_two]
  show (32 * t ≤ (i 0).val ∧ (i 0).val < 32 * t + 32) ∧ (0 ≤ (i 1).val ∧ (i 1).val < 0 + 1024) ↔ i ∈ Finset.univ ∧ (i 0).val / 32 = t
  refine ⟨fun hh => ⟨Finset.mem_univ _, by omega⟩, fun hh => by have := hh.2; omega⟩

theorem rect_slot (j : ℕ) (h : ∀ a, slotOff j a + S1x32x1024.size a ≤ S32x32x1024.size a) :
    (Rect.unit (s := S32x32x1024) (slotOff j) S1x32x1024.size h).set = slotOf j := by
  ext i
  have h1 : (i 1).val < 32 := (i 1).isLt
  have h2 : (i 2).val < 1024 := (i 2).isLt
  rw [Rect.mem_set_unit, slotOf, Finset.mem_filter, Fin.forall_fin_succ, Fin.forall_fin_two]
  show (j ≤ (i 0).val ∧ (i 0).val < j + 1) ∧ (0 ≤ (i 1).val ∧ (i 1).val < 0 + 32) ∧ (0 ≤ (i 2).val ∧ (i 2).val < 0 + 1024) ↔ i ∈ Finset.univ ∧ (i 0).val = j
  refine ⟨fun hh => ⟨Finset.mem_univ _, by omega⟩, fun hh => by have := hh.2; omega⟩

theorem p16M_set (t : ℕ) (h) : (p16M (rowOff t) h).view.set = rowsOf t := (View.set_slice_whole _ _).trans (rect_rows t h)
theorem o16M_set (t : ℕ) (h) : (o16M (rowOff t) h).view.set = rowsOf t := (View.set_slice_whole _ _).trans (rect_rows t h)
theorem gatM_set (j : ℕ) (h) : (gatM (slotOff j) h).view.set = slotOf j :=
  (Memref.set_view_squeeze _ _).trans ((View.set_slice_whole _ _).trans (rect_slot j h))
theorem redM_set : redM.view.set = Finset.univ := View.set_whole _

theorem p16M_emb (t : ℕ) (h) (k : S32x1024.Idx) (a : Fin 2) : ((p16M (rowOff t) h).view.emb k a).val = rowOff t a + (k a).val :=
  ValueKit.rect_emb_unit_val (s := S1024x1024) (rowOff t) S32x1024.size h k a
theorem o16M_emb (t : ℕ) (h) (k : S32x1024.Idx) (a : Fin 2) : ((o16M (rowOff t) h).view.emb k a).val = rowOff t a + (k a).val :=
  ValueKit.rect_emb_unit_val (s := S1024x1024) (rowOff t) S32x1024.size h k a
theorem gatM_emb (j : ℕ) (h) (k : S32x1024.Idx) :
    ((gatM (slotOff j) h).view.emb k 0).val = j ∧ ((gatM (slotOff j) h).view.emb k 1).val = (k 0).val ∧ ((gatM (slotOff j) h).view.emb k 2).val = (k 1).val := by
  have e : (gatM (slotOff j) h).view.emb k = (Rect.unit (s := S32x32x1024) (slotOff j) S1x32x1024.size h).emb (Fin.cons ⟨0, Nat.one_pos⟩ k) :=
    congrArg (Rect.unit (s := S32x32x1024) (slotOff j) S1x32x1024.size h).emb (Shape.reshapeEquiv_cons_one (d := ![32, 1024]) _ k)
  rw [e]
  refine ⟨?_, ?_, ?_⟩
  · rw [ValueKit.rect_emb_unit_val]; rfl
  · rw [ValueKit.rect_emb_unit_val]; exact Nat.zero_add _
  · rw [ValueKit.rect_emb_unit_val]; exact Nat.zero_add _

variable (P16 : Dev nD → S1024x1024.Idx → Elt F .bf16) (RED : Dev nD → S32x1024.Idx → Elt F .bf16)

omit [FloatOps F] in
/-- Rows of `c`'s product landing in the slot `j` places on are what that device's gather buffer should hold there. -/
theorem landed_slot (c : Dev nD) {j : ℕ} (h1 : 1 ≤ j) (hj : j < 32) (hs hd) (fd : S32x32x1024.Idx → Elt F .bf16) :
    ∀ i ∈ slotOf j, (gatM (slotOff j) hd).view.write (Elt F) fd ((p16M (rowOff (peer c j).val) hs).view.read (Elt F) (P16 c)) Finset.univ i
      = gatOf P16 (peer c j) i := by
  intro i hi
  rw [← gatM_set j hd] at hi
  obtain ⟨k, -, rfl⟩ := Finset.mem_map.mp hi
  rw [View.write_emb_of_mem _ _ (Finset.mem_univ k)]
  show P16 c ((p16M (rowOff (peer c j).val) hs).view.emb k) = _
  obtain ⟨e0, e1, e2⟩ := gatM_emb j hd k
  unfold gatOf
  rw [e0, peer_back c (by omega)]
  congr 1
  refine (eq_ix2 _).trans (congrArg₂ ix2 (Fin.ext ?_) (Fin.ext ?_))
  · rw [p16M_emb]; show 32 * (peer c j).val + (k 0).val = 32 * (peer c j).val + _; rw [e1]
  · rw [p16M_emb, e2]; exact Nat.zero_add _

omit [FloatOps F] in
/-- `c`'s reduced rows landing in rows `c` are what the 16-bit result should hold there. -/
theorem landed_rows (c : Dev nD) (hd) (fd : S1024x1024.Idx → Elt F .bf16) :
    ∀ i ∈ rowsOf c.val, ((o16M (rowOff c.val) hd).view.write (Elt F) fd (redM.view.read (Elt F) (RED c)) Finset.univ : S1024x1024.Idx → Elt F .bf16) i = o16Of RED i := by
  intro i hi
  rw [← o16M_set c.val hd] at hi
  obtain ⟨k, -, rfl⟩ := Finset.mem_map.mp hi
  rw [View.write_emb_of_mem _ _ (Finset.mem_univ k)]
  show RED c k = RED _ _
  have e0 := o16M_emb c.val hd k 0
  have e1 := o16M_emb c.val hd k 1
  have hk : (k 0).val < 32 := (k 0).isLt
  have e0' : ((o16M (rowOff c.val) hd).view.emb k 0).val = 32 * c.val + (k 0).val := e0
  have e1' : ((o16M (rowOff c.val) hd).view.emb k 1).val = 0 + (k 1).val := e1
  have hc : rowDev ((o16M (rowOff c.val) hd).view.emb k 0) = c := Fin.ext (by show _ / 32 = c.val; omega)
  rw [hc]
  congr 1
  refine (eq_ix2 _).trans (congrArg₂ ix2 (Fin.ext ?_) (Fin.ext ?_))
  · show (k 0).val = _ % 32; omega
  · omega

/-! ## The states and the steps -/

/-- A transfer's credit depends on its shape and element type alone. -/
theorem o16M_amount (off hoff) (sem : SemLoc sig) (q : DmaSem sig) (h : sem = .dma q) : (o16M off hoff).view.amount sem = N := by
  subst h; rfl

variable (K : Dev nD × Fin 97 → ℕ) (c : Dev nD)

/-- What `c` owes, with the waits so far left unnamed. -/
def owe (O : CellTallies nD τ sig Unit) : sProp 𝕄 := iprop(∃ W, owes (c : Thread nD τ) O W)

/-- Before signal `n`: what the remaining signals will hand over. -/
def stB (n : ℕ) : sProp 𝕄 := iprop(records P16 RED K ∗ owe c (owB c n + (owR c 1 + owG c 1))
  ∗ bigSep (Finset.Ico n 32) fun j => iprop(dutyTok ER (barCell (peer c j)) 0 (32 - j) ∗ (∃ f, gatSlot c (32 - j) f) ∗ ∃ f, o16Rows c (peer c j).val f))

/-- Before transfer `n` of the reduce-scatter. -/
def stP (n : ℕ) : sProp 𝕄 := iprop(records P16 RED K ∗ owe c (owR c n + owG c 1)
  ∗ (bigSep (Finset.Ico n 32) fun j => iprop(dutyTok ER ((c : Thread nD τ), sS j) 0 0 ∗ dutyTok ER ((peer c j : Thread nD τ), sR j) 0 0
      ∗ p16Rows c (peer c j).val (P16 c) ∗ ∃ f, gatSlot (peer c j) j f))
  ∗ bigSep (Finset.Ico 1 n) fun j => cred (tallyAt ((c : Thread nD τ), sS j) () N))

/-- Before transfer `n` of the all-gather. -/
def stQ (n : ℕ) : sProp 𝕄 := iprop(records P16 RED K ∗ owe c (owG c n)
  ∗ (bigSep (Finset.Ico n 32) fun j => iprop(dutyTok ER ((c : Thread nD τ), sS j) 1 0 ∗ reached ER ((c : Thread nD τ), sS j) 1
      ∗ dutyTok ER ((peer c j : Thread nD τ), sG j) 0 0
      ∗ redPts c (Transfers.shareTokN fullShare j) (RED c) ∗ ∃ f, o16Rows (peer c j) c.val f))
  ∗ bigSep (Finset.Ico 1 n) fun j => cred (tallyAt ((c : Thread nD τ), sS j) () N))

/-- Before wait `n` of a phase waiting on semaphores `cell 1, …, cell 31` in round `R`, each wait yielding `Pay j`. -/
def stW (cell : ℕ → SemLoc sig) (R : ℕ) (Pay : ℕ → sProp 𝕄) (O : CellTallies nD τ sig Unit) (n : ℕ) : sProp 𝕄 :=
  iprop(records P16 RED K ∗ owe c O
  ∗ (bigSep (Finset.Ico n 32) fun j => iprop(cred (tallyAt ((c : Thread nD τ), cell j) () N) ∗ atPos ER ((c : Thread nD τ), cell j) R ∅ 0))
  ∗ bigSep (Finset.Ico 1 n) fun j => iprop(atPos ER ((c : Thread nD τ), cell j) (R + 1) ∅ 0 ∗ reached ER ((c : Thread nD τ), cell j) (R + 1) ∗ Pay j))

/-- Signal `n`. -/
theorem step_signal {α : Type} {Q : α → sProp 𝕄} {n : ℕ} (h1 : 1 ≤ n) (hn : n < 32) {d : Dev nD} (hd : d = peer c n) {k : PUnit → Prog (TpuEff nD τ sig (Elt F) Λ₀ .tc) α} :
    stB P16 RED K c n ⊢ iprop((stB P16 RED K c (n + 1) -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (d : Thread nD τ) barrier0 1) k) Q) := by
  subst hd
  unfold stB owe
  rw [bigSep_Ico_succ_bot hn]
  iintro ⟨#HR, ⟨%W, HO⟩, ⟨Ht, Hg, Ho⟩, Hrest⟩ Hk
  iapply (Rounds.wp_signal 𝒱₀ ER (sched P16 RED) (c : Thread nD τ) none (dst := (peer c n : Thread nD τ)) (κ := K (peer c n, 0))
      (d := 32 - n) (by rw [duties_bar]; exact Finset.mem_Ico.mpr (by omega)) rfl () (O₀ := owB c n + (owR c 1 + owG c 1)) (owB c (n + 1) + (owR c 1 + owG c 1))
      (by rw [owB_succ c hn, add_right_comm]; rfl)) $$ [HO Ht Hg Ho]
  · isplitr; · iapply (inv_bar P16 RED K (peer c n)); iexact HR
    isplitl [HO]; · iexact HO
    isplitl [Ht]; · iexact Ht
    isplitl [Hg Ho]
    · rw [show (sched P16 RED).payload ((peer c n : Thread nD τ), .reg barrier0) 0 (32 - n) = barPay (F := F) (peer c n) (32 - n) from rfl]
      unfold barPay; rw [peer_back c (by omega)]
      isplitl [Hg]; · iexact Hg
      iexact Ho
    iapply (reached_bar P16 RED K (peer c n)); iexact HR
  iintro HO
  iapply Hk
  isplitr; · iexact HR
  isplitl [HO]; · iexists W; iexact HO
  iexact Hrest

/-- The wait for all 31 signals. -/
theorem step_barrier {α : Type} {Q : α → sProp 𝕄} {O : CellTallies nD τ sig Unit} (hO : Above 1 O) {k : PUnit → Prog (TpuEff nD τ sig (Elt F) Λ₀ .tc) α} :
    iprop(records P16 RED K ∗ owe c O ∗ cred (tallyAt (barCell c) () 31) ∗ atPos ER (barCell c) 0 ∅ 0)
      ⊢ iprop(((owe c O ∗ atPos ER (barCell c) 1 ∅ 0 ∗ bigSep (Finset.Ico 1 32) fun j => barPay c j)
          -∗ wp frame (wpE (defs₀ (F := F)) 𝒱₀ (c : Thread nD τ) none) Set.univ (k ⟨⟩) Q)
      -∗ wp frame (wpE (defs₀ (F := F)) 𝒱₀ (c : Thread nD τ) none) Set.univ (.op (.semWait barrier0 31) k) Q) := by
  unfold owe
  iintro ⟨#HR, ⟨%W, HO⟩, Hc, Ha⟩ Hk
  iapply (Rounds.wp_wait_rest_token 𝒱₀ ER (sched P16 RED) (c : Thread nD τ) none (κ := K (c, 0))
      (wpE_semWait_eq 𝒱₀ (c : Thread nD τ) none Set.univ) (Set.mem_univ _) () (O := O) (W := W) (R := 0) (m := 0) (T := ∅)
      (expect_bar P16 RED c).symm) $$ [Hc HO Ha]
  · isplitr; · iapply (inv_bar P16 RED K c); iexact HR
    isplitl [Hc]; · iexact Hc
    isplitl [HO]; · iexact HO
    isplitr; · iapply (mayWait_rec P16 RED K c (.reg barrier0) rfl hO); iexact HR
    iexact Ha
  iintro ⟨HO, Ha, -, Hp⟩
  iapply Hk
  isplitl [HO]; · iexists _; iexact HO
  isplitl [Ha]; · iexact Ha
  rw [duties_bar, Finset.sdiff_empty]
  iexact Hp

/-- A wait on a DMA semaphore whose round has one duty. -/
theorem step_wait {α : Type} {Q : α → sProp 𝕄} {cell : ℕ → SemLoc sig} {R : ℕ} {Pay : ℕ → sProp 𝕄} {O : CellTallies nD τ sig Unit} {n : ℕ} {q : ℕ} (hcell : cell n = .dma (ds q))
    (h6 : 6 ≤ q) (hq : q < 102) (h1 : 1 ≤ n) (hn : n < 32)
    (hduty : (sched (F := F) P16 RED).duties ((c : Thread nD τ), .dma (ds q)) R = {0})
    (hpay : (sched (F := F) P16 RED).payload ((c : Thread nD τ), .dma (ds q)) R 0 = Pay n)
    (hO : Above (lv ((c : Thread nD τ), .dma (ds q)) ()) O)
    {sem : DmaSem sig} (hsem : sem = ds q) {sp sp' : Space} {s s' : Shape} {e e' : EltTy} {src : Memref sig .tc sp s e} {dst : Memref sig .tc sp' s' e'}
    {h h'} (hN : dst.view.dmaCredit = N)
    {k : PUnit → Prog (TpuEff nD τ sig (Elt F) Λ₀ .tc) α} :
    stW P16 RED K c cell R Pay O n ⊢ iprop((stW P16 RED K c cell R Pay O (n + 1) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst h h') k) Q) := by
  subst hsem
  unfold stW owe
  rw [bigSep_Ico_succ_bot hn, bigSep_Ico_succ_top h1, hcell]
  iintro ⟨#HR, ⟨%W, HO⟩, ⟨⟨Hc, Ha⟩, Hrest⟩, Hdone⟩ Hk
  iapply (Rounds.wp_wait_rest_token 𝒱₀ ER (sched P16 RED) (c : Thread nD τ) none (κ := K (c, ix q))
      (wpE_waitDma2_eq 𝒱₀ (c : Thread nD τ) none Set.univ) (Set.mem_univ _) () (O := O) (W := W) (R := R) (m := 0) (T := ∅)
      (by rw [Nat.zero_add, expect_dma P16 RED c hduty]; exact hN)) $$ [Hc HO Ha]
  · isplitr; · iapply (inv_dma P16 RED K c h6 hq); iexact HR
    isplitl [Hc]; · rw [hN]; iexact Hc
    isplitl [HO]; · iexact HO
    isplitr; · iapply (mayWait_rec P16 RED K c (.dma (ds q)) rfl hO); iexact HR
    iexact Ha
  iintro ⟨HO, Ha, Hr, Hp⟩
  ihave Hp := (Entails.of_eq ((rest_one P16 RED hduty).trans hpay)) $$ Hp
  iapply Hk
  isplitr; · iexact HR
  isplitl [HO]; · iexists _; iexact HO
  isplitl [Hrest]; · iexact Hrest
  isplitl [Ha Hr Hp]
  · isplitl [Ha]; · iexact Ha
    isplitl [Hr]; · iexact Hr
    iexact Hp
  iexact Hdone

/-- Transfer `n` of the reduce-scatter. -/
theorem step_send {α : Type} {Q : α → sProp 𝕄} {n : ℕ} (h1 : 1 ≤ n) (hn : n < 32) {d : Dev nD} (hd : d = peer c n) {off : Fin 2 → ℕ} {hoff} (ho : off = rowOff (peer c n).val)
    {offd : Fin 3 → ℕ} {hoffd} (hod : offd = slotOff n) {s1 s2 : DmaSem sig} (hs1 : s1 = ds (6 + n)) (hs2 : s2 = ds (38 + n))
    {hsc} {hsrc : (p16M off hoff).view.WordExact} {hdst : (gatM offd hoffd).view.WordExact}
    {hsem : DmaTarget.Typed .vmem (.dma s2) (.remote (Dev.tc d : Thread nD τ) (gatM offd hoffd) (.dma s1) hsc)}
    {k : PUnit → Prog (TpuEff nD τ sig (Elt F) Λ₀ .tc) α} :
    stP P16 RED K c n ⊢ iprop((stP P16 RED K c (n + 1) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (p16M off hoff) (.remote (Dev.tc d : Thread nD τ) (gatM offd hoffd) (.dma s1) hsc) (.dma s2) hsrc hdst hsem) k) Q) := by
  subst hd ho hod hs1 hs2
  unfold stP owe
  rw [bigSep_Ico_succ_bot hn, bigSep_Ico_succ_top h1]
  iintro ⟨#HR, ⟨%W, HO⟩, ⟨⟨Ht1, Ht2, Hp, ⟨%fd, Hg⟩⟩, Hrest⟩, Hdone⟩ Hk
  iapply (Rounds.wp_send_pointsTo 𝒱₀ ER (sched P16 RED) (c : Thread nD τ) none (κ₁ := K (c, ix (6 + n))) (κ₂ := K (peer c n, ix (38 + n)))
    (r₁ := 0) (r₂ := 0) (d₁ := 0) (d₂ := 0) (q := fullShare) (fs := P16 c) (fd := fd)
    (by rw [duties_send P16 RED c h1 hn (by decide)]; exact Finset.mem_singleton_self _)
    (by rw [duties_recv P16 RED _ h1 hn]; exact Finset.mem_singleton_self _)
    () () N rfl rfl rfl (O₀ := owR c n + owG c 1) (owR c (n + 1) + owG c 1) (by rw [owR_succ c hn, add_right_comm]) (W := W)
    (by rw [pay_send0 P16 RED c hn, p16M_set]; unfold p16Rows; exact BI.Entails.refl _)
    (by rw [pay_recv P16 RED _ hn, gatM_set]; unfold gatSlot; exact Entails.of_eq (pointsTo_congr (landed_slot P16 c h1 hn hoff hoffd fd)))) $$ [HO Ht1 Ht2 Hp Hg]
  · isplitr; · iapply (inv_dma P16 RED K c (q := 6 + n) (by omega) (by omega)); iexact HR
    isplitr; · iapply (inv_dma P16 RED K (peer c n) (q := 38 + n) (by omega) (by omega)); iexact HR
    isplitl [Hp]; · unfold p16Rows; rw [p16M_set]; iexact Hp
    isplitl [Hg]; · unfold gatSlot; rw [gatM_set]; iexact Hg
    isplitl [HO]; · iexact HO
    isplitl [Ht1]; · iexact Ht1
    isplitr; · iapply (reached_dma P16 RED K c (q := 6 + n) (by omega) (by omega)); iexact HR
    isplitl [Ht2]; · iexact Ht2
    iapply (reached_dma P16 RED K (peer c n) (q := 38 + n) (by omega) (by omega)); iexact HR
  iintro ⟨Hc, HO⟩
  iapply Hk
  isplitr; · iexact HR
  isplitl [HO]; · iexists W; iexact HO
  isplitl [Hrest]; · iexact Hrest
  isplitl [Hc]; · iexact Hc
  iexact Hdone

/-- Transfer `n` of the all-gather. -/
theorem step_gather {α : Type} {Q : α → sProp 𝕄} {n : ℕ} (h1 : 1 ≤ n) (hn : n < 32) {d : Dev nD} (hd : d = peer c n) {off : Fin 2 → ℕ} {hoff} (ho : off = (rowOff c.val))
    {s1 s2 : DmaSem sig} (hs1 : s1 = ds (6 + n)) (hs2 : s2 = ds (70 + n))
    {hsc} {hsrc : redM.view.WordExact} {hdst : (o16M off hoff).view.WordExact}
    {hsem : DmaTarget.Typed .vmem (.dma s2) (.remote (Dev.tc d : Thread nD τ) (o16M off hoff) (.dma s1) hsc)}
    {k : PUnit → Prog (TpuEff nD τ sig (Elt F) Λ₀ .tc) α} :
    stQ P16 RED K c n ⊢ iprop((stQ P16 RED K c (n + 1) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma redM (.remote (Dev.tc d : Thread nD τ) (o16M off hoff) (.dma s1) hsc) (.dma s2) hsrc hdst hsem) k) Q) := by
  subst hd ho hs1 hs2
  unfold stQ owe
  rw [bigSep_Ico_succ_bot hn, bigSep_Ico_succ_top h1]
  iintro ⟨#HR, ⟨%W, HO⟩, ⟨⟨Ht1, Hr1, Ht2, Hp, ⟨%fd, Hg⟩⟩, Hrest⟩, Hdone⟩ Hk
  iapply (Rounds.wp_send_pointsTo 𝒱₀ ER (sched P16 RED) (c : Thread nD τ) none (κ₁ := K (c, ix (6 + n))) (κ₂ := K (peer c n, ix (70 + n)))
    (r₁ := 1) (r₂ := 0) (d₁ := 0) (d₂ := 0) (q := Transfers.shareTokN fullShare n) (fs := RED c) (fd := fd)
    (by rw [duties_send P16 RED c h1 hn (by decide)]; exact Finset.mem_singleton_self _)
    (by rw [duties_gath P16 RED _ h1 hn]; exact Finset.mem_singleton_self _)
    () () N (o16M_amount _ _ _ _ rfl) rfl rfl (owG c (n + 1)) (owG_succ c hn) (W := W)
    (by rw [pay_send1 P16 RED c hn, redM_set]; unfold redPts; exact BI.Entails.refl _)
    (by rw [pay_gath P16 RED _ hn, o16M_set, peer_back c (by omega)]; unfold o16Rows; exact Entails.of_eq (pointsTo_congr (landed_rows RED c hoff fd)))) $$ [HO Ht1 Hr1 Ht2 Hp Hg]
  · isplitr; · iapply (inv_dma P16 RED K c (q := 6 + n) (by omega) (by omega)); iexact HR
    isplitr; · iapply (inv_dma P16 RED K (peer c n) (q := 70 + n) (by omega) (by omega)); iexact HR
    isplitl [Hp]; · unfold redPts; rw [redM_set]; iexact Hp
    isplitl [Hg]; · unfold o16Rows; rw [o16M_set]; iexact Hg
    isplitl [HO]; · iexact HO
    isplitl [Ht1]; · iexact Ht1
    isplitl [Hr1]; · iexact Hr1
    isplitl [Ht2]; · iexact Ht2
    iapply (reached_dma P16 RED K (peer c n) (q := 70 + n) (by omega) (by omega)); iexact HR
  iintro ⟨Hc, HO⟩
  iapply Hk
  isplitr; · iexact HR
  isplitl [HO]; · iexists W; iexact HO
  isplitl [Hrest]; · iexact Hrest
  isplitl [Hc]; · iexact Hc
  iexact Hdone

end Cert.Attn
end
-- ==== Proof.Values.lean ====
/-
# What one device computes

The values a device works out by itself, over any float values: its projections, the heads of its attention, its partial
product, and the sum of the rows it collects from the others. The arrays a device starts from are parameters.
-/
module

public import proofs.«01_k».proof.Proof.Steps

@[expose] public section

noncomputable section

namespace Cert.Attn

open Cert.KernelIdeal Cert.KernelIdeal.Gen
open Idealize.ShloMosaic
open Idealize.ShloMosaic.TcCoe
open Idealize.ShloMosaic.ValueIdx (ix2 ix3 eq_ix2)

variable {F : FTy → Type} [FloatOps F]

/-! ## The rotation, a head, the partial product -/

/-- The cosines, the sines and the even columns of the rotation. -/
def cosT : FVec F S512x128 .f32 := k0_pay9 k0_pay5 k0_pay6 k0_pay7
def sinT : FVec F S512x128 .f32 := k0_pay10 k0_pay5 k0_pay6 k0_pay7
def evenT : IVec S512x128 1 := k0_pay11 (iota .tc S512x128 32 [1] iota_S512x128_d1_w32)

/-- Head `n`: the block of 512 rows and 128 columns of a 1024 × 1024 array that batch `n / 8` and local head `n % 8` own. -/
def blk (f : FVec F S1024x1024 .f32) (n : ℕ) : FVec F S512x128 .f32 := fun i =>
  f (ix2 ⟨(512 * (n / 8) + (i 0).val) % 1024, Nat.mod_lt _ (by decide)⟩ ⟨(128 * (n % 8) + (i 1).val) % 1024, Nat.mod_lt _ (by decide)⟩)

/-- The head an element belongs to, and its place there. -/
def headIx (i : S1024x1024.Idx) : ℕ := 8 * ((i 0).val / 512) + (i 1).val / 128
def headIn (i : S1024x1024.Idx) : S512x128.Idx := ix2 ⟨(i 0).val % 512, Nat.mod_lt _ (by decide)⟩ ⟨(i 1).val % 128, Nat.mod_lt _ (by decide)⟩

/-- The weights of a head's softmax before their normalisation, and the head's output. -/
def expo (q k : FVec F S512x128 .f32) : FVec F S512x512 .f32 := k0_pay14 cosT sinT evenT q k
def headOf (q k v : FVec F S512x128 .f32) : FVec F S512x128 .f32 := k0_pay15 v (expo q k)

section Device
variable (X : Dev nD → Vec F S2x512x1024 .f32) (WQ WK WV WO : Dev nD → Vec F S1024x1024 .f32) (c : Dev nD)

def qOf : FVec F S1024x1024 .f32 := k0_pay2 (X c) (WQ c)
def kOf : FVec F S1024x1024 .f32 := k0_pay3 (X c) (WK c)
def vOf : FVec F S1024x1024 .f32 := k0_pay4 (X c) (WV c)

/-- Head `n` of device `c`, and all of them side by side. -/
def hd (n : ℕ) : FVec F S512x128 .f32 := headOf (blk (qOf X WQ c) n) (blk (kOf X WK c) n) (blk (vOf X WV c) n)
def ctx : FVec F S1024x1024 .f32 := fun i => hd X WQ WK WV c (headIx i) (headIn i)
/-- What the query buffer holds once `n` heads have replaced their queries. -/
def qAt (n : ℕ) : FVec F S1024x1024 .f32 := fun i => if headIx i < n then ctx X WQ WK WV c i else qOf X WQ c i

def partOf : FVec F S1024x1024 .f32 := k0_pay43 (ctx X WQ WK WV c) (WO c)
def part16 : FVec F S1024x1024 .bf16 := k0_pay44 (partOf X WQ WK WV WO c)

/-! ## The sum of the rows that `c` owns -/

/-- Rows `32 t …` of a 1024-row array. -/
def chunk (f : FVec F S1024x1024 .f32) (t : ℕ) : FVec F S32x1024 .f32 := fun i => f (ix2 ⟨(32 * t + (i 0).val) % 1024, Nat.mod_lt _ (by decide)⟩ (i 1))

/-- Slot `j` of the gather buffer, as loaded, and as the rows it adds. -/
def slotV (P16 : Dev nD → S1024x1024.Idx → Elt F .bf16) (j : ℕ) : Vec F S1x32x1024 .bf16 := fun i => gatOf P16 c (ix3 ⟨(j + (i 0).val) % 32, Nat.mod_lt _ (by decide)⟩ (i 1) (i 2))
def slotF (P16 : Dev nD → S1024x1024.Idx → Elt F .bf16) (j : ℕ) : FVec F S32x1024 .f32 :=
  extf .f32 (shapeCast S32x1024 (slotV c P16 j : FVec F S1x32x1024 .bf16) shapeCasts_S1x32x1024_S32x1024) bitsLt_bf16_f32

/-- The rows that `c` owns after the first `n` arrivals are added. -/
def acc : ℕ → FVec F S32x1024 .f32
  | 0 => chunk (partOf X WQ WK WV WO c) c.val
  | n + 1 => addf (acc n) (slotF c (part16 X WQ WK WV WO) (n + 1))

def redOf : FVec F S32x1024 .bf16 := shapeCast S32x1024 (truncf .bf16 (acc X WQ WK WV WO c 31) bitsLt_bf16_f32) shapeCasts_S32x1024_S32x1024

/-- The kernel's result on `c`: its own rows as summed, the others as they arrived. -/
def outOf : FVec F S1024x1024 .f32 := fun i =>
  if (i 0).val / 32 = c.val then acc X WQ WK WV WO c 31 (ix2 (rowIn (i 0)) (i 1))
  else extf .f32 (o16Of (redOf X WQ WK WV WO) : FVec F S1024x1024 .bf16) bitsLt_bf16_f32 i

end Device

/-! ## The accesses' geometry -/

theorem headIx_lt (i : S1024x1024.Idx) : headIx i < 16 := by
  have h0 : (i 0).val < 1024 := (i 0).isLt
  have h1 : (i 1).val < 1024 := (i 1).isLt
  unfold headIx; omega

/-- Where head `n`'s block starts. -/
abbrev headOff (n : ℕ) : Fin 2 → ℕ := ![512 * (n / 8), 128 * (n % 8)]

theorem head_emb (n : ℕ) (h : ∀ a, headOff n a + S512x128.size a ≤ S1024x1024.size a) (i : S512x128.Idx) :
    ((Rect.unit (s := S1024x1024) (headOff n) S512x128.size h).emb i 0).val = 512 * (n / 8) + (i 0).val
      ∧ ((Rect.unit (s := S1024x1024) (headOff n) S512x128.size h).emb i 1).val = 128 * (n % 8) + (i 1).val :=
  ⟨ValueKit.rect_emb_unit_val (s := S1024x1024) (headOff n) S512x128.size h i 0, ValueKit.rect_emb_unit_val (s := S1024x1024) (headOff n) S512x128.size h i 1⟩

/-- Reading head `n`'s block. -/
theorem read_head (f : FVec F S1024x1024 .f32) {n : ℕ} (hn : n < 16) {off : Fin 2 → ℕ} (ho : off = headOff n) (h : ∀ a, off a + S512x128.size a ≤ S1024x1024.size a) :
    (fun i => f ((Rect.unit (s := S1024x1024) off S512x128.size h).emb i)) = blk f n := by
  subst ho
  funext i
  obtain ⟨e0, e1⟩ := head_emb n h i
  have h0 : (i 0).val < 512 := (i 0).isLt
  have h1 : (i 1).val < 128 := (i 1).isLt
  refine congrArg f ((eq_ix2 _).trans (congrArg₂ ix2 (Fin.ext ?_) (Fin.ext ?_)))
  · rw [e0]; exact (Nat.mod_eq_of_lt (by omega)).symm
  · rw [e1]; exact (Nat.mod_eq_of_lt (by omega)).symm

theorem chunk_emb (t : ℕ) (h : ∀ a, rowOff t a + S32x1024.size a ≤ S1024x1024.size a) (i : S32x1024.Idx) :
    ((Rect.unit (s := S1024x1024) (rowOff t) S32x1024.size h).emb i 0).val = 32 * t + (i 0).val
      ∧ ((Rect.unit (s := S1024x1024) (rowOff t) S32x1024.size h).emb i 1).val = (i 1).val :=
  ⟨ValueKit.rect_emb_unit_val (s := S1024x1024) (rowOff t) S32x1024.size h i 0,
    (ValueKit.rect_emb_unit_val (s := S1024x1024) (rowOff t) S32x1024.size h i 1).trans (Nat.zero_add _)⟩

/-- Reading rows `32 t …`. -/
theorem read_chunk (f : FVec F S1024x1024 .f32) {t : ℕ} (ht : t < 32) {off : Fin 2 → ℕ} (ho : off = rowOff t) (h : ∀ a, off a + S32x1024.size a ≤ S1024x1024.size a) :
    (fun i => f ((Rect.unit (s := S1024x1024) off S32x1024.size h).emb i)) = chunk f t := by
  subst ho
  funext i
  obtain ⟨e0, e1⟩ := chunk_emb t h i
  have h0 : (i 0).val < 32 := (i 0).isLt
  refine congrArg f ((eq_ix2 _).trans (congrArg₂ ix2 (Fin.ext ?_) (Fin.ext e1)))
  rw [e0]; exact (Nat.mod_eq_of_lt (by omega)).symm

/-- Reading slot `j` of a full gather buffer. -/
theorem read_slot (c : Dev nD) (P16 : Dev nD → S1024x1024.Idx → Elt F .bf16) {j : ℕ} (hj : j < 32) {off : Fin 3 → ℕ} (ho : off = slotOff j)
    (h : ∀ a, off a + S1x32x1024.size a ≤ S32x32x1024.size a) :
    (fun i => gatOf P16 c ((Rect.unit (s := S32x32x1024) off S1x32x1024.size h).emb i)) = slotV c P16 j := by
  subst ho
  funext i
  have h0 : (i 0).val < 1 := (i 0).isLt
  refine congrArg (gatOf P16 c) ((ValueIdx.eq_ix3 _).trans (congr (congrArg₂ ix3 (Fin.ext ?_) (Fin.ext ?_)) (Fin.ext ?_)))
  · exact (ValueKit.rect_emb_unit_val (s := S32x32x1024) (slotOff j) S1x32x1024.size h i 0).trans (Nat.mod_eq_of_lt (by show j + (i 0).val < 32; omega)).symm
  · exact (ValueKit.rect_emb_unit_val (s := S32x32x1024) (slotOff j) S1x32x1024.size h i 1).trans (Nat.zero_add _)
  · exact (ValueKit.rect_emb_unit_val (s := S32x32x1024) (slotOff j) S1x32x1024.size h i 2).trans (Nat.zero_add _)

section Device
variable (X : Dev nD → Vec F S2x512x1024 .f32) (WQ WK WV WO : Dev nD → Vec F S1024x1024 .f32) (c : Dev nD)

theorem qAt_zero : qAt X WQ WK WV c 0 = qOf X WQ c := funext fun i => if_neg (Nat.not_lt_zero _)
theorem qAt_end : qAt X WQ WK WV c 16 = ctx X WQ WK WV c := funext fun i => if_pos (headIx_lt i)

/-- The block a head is about to read still holds its queries. -/
theorem blk_qAt {n : ℕ} (hn : n < 16) : blk (qAt X WQ WK WV c n) n = blk (qOf X WQ c) n := by
  funext i
  have h0 : (i 0).val < 512 := (i 0).isLt
  have h1 : (i 1).val < 128 := (i 1).isLt
  refine if_neg ?_
  show ¬ (8 * (((512 * (n / 8) + (i 0).val) % 1024) / 512) + ((128 * (n % 8) + (i 1).val) % 1024) / 128) < n
  omega

/-- Storing head `n` over its queries. -/
theorem write_head {n : ℕ} (hn : n < 16) {off : Fin 2 → ℕ} (ho : off = headOff n) (h : ∀ a, off a + S512x128.size a ≤ S1024x1024.size a) :
    (((Memref.whole cc0_scratch0 : Memref sig .tc .vmem S1024x1024 .f32).access (Rect.unit (s := S1024x1024) off S512x128.size h)).write (Elt F)
      (qAt X WQ WK WV c n) (hd X WQ WK WV c n) Finset.univ : S1024x1024.Idx → Elt F .f32) = qAt X WQ WK WV c (n + 1) := by
  subst ho
  funext i
  have b0 : (i 0).val < 1024 := (i 0).isLt
  have b1 : (i 1).val < 1024 := (i 1).isLt
  by_cases hi : headIx i = n
  · have hi' : 8 * ((i 0).val / 512) + (i 1).val / 128 = n := hi
    have e : i = ((Memref.whole cc0_scratch0 : Memref sig .tc .vmem S1024x1024 .f32).access (Rect.unit (s := S1024x1024) (headOff n) S512x128.size h)).emb (headIn i) := by
      obtain ⟨e0, e1⟩ := head_emb n h (headIn i)
      refine (eq_ix2 i).trans (Eq.trans (congrArg₂ ix2 (Fin.ext ?_) (Fin.ext ?_)) (eq_ix2 _).symm)
      · refine Eq.trans ?_ e0.symm; show (i 0).val = 512 * (n / 8) + (i 0).val % 512; omega
      · refine Eq.trans ?_ e1.symm; show (i 1).val = 128 * (n % 8) + (i 1).val % 128; omega
    have hw := View.write_emb_of_mem (v := ((Memref.whole cc0_scratch0 : Memref sig .tc .vmem S1024x1024 .f32).access (Rect.unit (s := S1024x1024) (headOff n) S512x128.size h)))
      (Val := Elt F) (qAt X WQ WK WV c n) (hd X WQ WK WV c n) (Finset.mem_univ (headIn i))
    rw [← e] at hw
    refine hw.trans ?_
    show _ = if headIx i < n + 1 then ctx X WQ WK WV c i else _
    rw [if_pos (by omega)]
    unfold ctx; rw [hi]; rfl
  · refine (View.write_of_not_mem _ _ _ ?_).trans ?_
    · intro hm
      obtain ⟨k, -, rfl⟩ := Finset.mem_map.mp hm
      apply hi
      obtain ⟨e0, e1⟩ := head_emb n h k
      have h0 : (k 0).val < 512 := (k 0).isLt
      have h1 : (k 1).val < 128 := (k 1).isLt
      show 8 * (((Rect.unit (s := S1024x1024) (headOff n) S512x128.size h).emb k 0).val / 512) + ((Rect.unit (s := S1024x1024) (headOff n) S512x128.size h).emb k 1).val / 128 = n
      omega
    · show (if headIx i < n then _ else _) = if headIx i < n + 1 then _ else _
      by_cases hl : headIx i < n
      · rw [if_pos hl, if_pos (by omega)]
      · rw [if_neg hl, if_neg (by omega)]

end Device

/-- Storing a chunk of the result: the rows done so far, and these, are right. -/
theorem write_chunk (g f : FVec F S1024x1024 .f32) {t : ℕ} (ht : t < 32) {off : Fin 2 → ℕ} (ho : off = rowOff t) (h : ∀ a, off a + S32x1024.size a ≤ S1024x1024.size a)
    {w : FVec F S32x1024 .f32} (hw : w = chunk g t) {D : ℕ → Prop} (hf : ∀ i, D ((i 0).val / 32) → f i = g i) :
    ∀ i, (D ((i 0).val / 32) ∨ (i 0).val / 32 = t) →
      (((Memref.whole cc0_stg5_0 : Memref sig .tc .vmem S1024x1024 .f32).access (Rect.unit (s := S1024x1024) off S32x1024.size h)).write (Elt F) f w Finset.univ : S1024x1024.Idx → Elt F .f32) i = g i := by
  subst ho hw
  intro i hi
  have b0 : (i 0).val < 1024 := (i 0).isLt
  by_cases ht' : (i 0).val / 32 = t
  · have e : i = ((Memref.whole cc0_stg5_0 : Memref sig .tc .vmem S1024x1024 .f32).access (Rect.unit (s := S1024x1024) (rowOff t) S32x1024.size h)).emb (ix2 (rowIn (i 0)) (i 1)) := by
      obtain ⟨e0, e1⟩ := chunk_emb t h (ix2 (rowIn (i 0)) (i 1))
      refine (eq_ix2 i).trans (Eq.trans (congrArg₂ ix2 (Fin.ext ?_) (Fin.ext ?_)) (eq_ix2 _).symm)
      · refine Eq.trans ?_ e0.symm; show (i 0).val = 32 * t + (i 0).val % 32; omega
      · exact e1.symm
    have hw := View.write_emb_of_mem (v := ((Memref.whole cc0_stg5_0 : Memref sig .tc .vmem S1024x1024 .f32).access (Rect.unit (s := S1024x1024) (rowOff t) S32x1024.size h)))
      (Val := Elt F) f (chunk g t) (Finset.mem_univ (ix2 (rowIn (i 0)) (i 1)))
    refine (congrArg (View.write (Elt F) ((Memref.whole cc0_stg5_0 : Memref sig .tc .vmem S1024x1024 .f32).access (Rect.unit (s := S1024x1024) (rowOff t) S32x1024.size h)) f (chunk g t) Finset.univ) e).trans
      (hw.trans (congrArg g (Eq.trans (congrArg₂ ix2 (Fin.ext ?_) rfl) (eq_ix2 i).symm)))
    show (32 * t + (i 0).val % 32) % 1024 = (i 0).val; omega
  · refine (View.write_of_not_mem _ _ _ ?_).trans (hf i (hi.resolve_right ht'))
    intro hm
    obtain ⟨k, -, rfl⟩ := Finset.mem_map.mp hm
    apply ht'
    obtain ⟨e0, e1⟩ := chunk_emb t h k
    have h0 : (k 0).val < 32 := (k 0).isLt
    show ((Rect.unit (s := S1024x1024) (rowOff t) S32x1024.size h).emb k 0).val / 32 = t
    omega

end Cert.Attn
end
-- ==== Proof.Moves.lean ====
/-
# Loads and stores, and chaining operations

A proof of a stretch of the kernel is a chain of `frame_step`s: each operation's lemma turns the part of the state it uses, and
the rest stays.
-/
module

public import proofs.«01_k».proof.Proof.Values

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2)

variable {F : FTy → Type} [FloatOps F]

local notation "𝕄" => MT nD τ sig Unit (Elt F) ℕ UU ℕ

/-! ## Chaining -/

theorem frame_step {A A' R G W : sProp 𝕄} (h : A ⊢ iprop((A' -∗ G) -∗ W)) (hn : iprop(A' ∗ R) ⊢ G) : iprop(A ∗ R) ⊢ W := by
  iintro ⟨HA, HR⟩
  iapply h $$ HA
  iintro HA
  iapply hn
  isplitl [HA]; · iexact HA
  iexact HR

theorem last_step {A G : sProp 𝕄} (h : A ⊢ G) : A ⊢ iprop(|={Set.univ}=> G) := h.trans fupd_intro

/-- Bring the next part of the state to the front. -/
theorem swap {A B R W : sProp 𝕄} (h : iprop(B ∗ A ∗ R) ⊢ W) : iprop(A ∗ B ∗ R) ⊢ W := by
  iintro ⟨HA, HB, HR⟩
  iapply h
  isplitl [HB]; · iexact HB
  isplitl [HA]; · iexact HA
  iexact HR

/-- `A` holds `P x`, and with `P y` put back in its place is `A' y`. -/
def Has {β : Type} (A : sProp 𝕄) (P : β → sProp 𝕄) (x : β) (A' : β → sProp 𝕄) : Prop := A ⊢ iprop(P x ∗ ∀ y, (P y -∗ A' y))

theorem has_here {β : Type} (P : β → sProp 𝕄) (x : β) (R : sProp 𝕄) : Has iprop(P x ∗ R) P x (fun y => iprop(P y ∗ R)) := by
  unfold Has
  iintro ⟨HP, HR⟩
  isplitl [HP]; · iexact HP
  iintro %y HP
  isplitl [HP]; · iexact HP
  iexact HR

theorem has_there {β : Type} {A : sProp 𝕄} {P : β → sProp 𝕄} {x : β} {A' : β → sProp 𝕄} (B : sProp 𝕄) (h : Has A P x A') :
    Has iprop(B ∗ A) P x (fun y => iprop(B ∗ A' y)) := by
  unfold Has at *
  iintro ⟨HB, HA⟩
  ihave ⟨HP, Hk⟩ := h $$ HA
  isplitl [HP]; · iexact HP
  iintro %y HP
  isplitl [HB]; · iexact HB
  iapply Hk; iexact HP

theorem has_last {β : Type} (P : β → sProp 𝕄) (x : β) : Has (P x) P x P := by
  unfold Has
  iintro HP
  isplitl [HP]; · iexact HP
  iintro %y HP
  iexact HP

variable (c : Dev nD)

/-- Running `p` on device `c`. -/
abbrev run {α : Type} (p : Prog (TpuEff nD τ sig (Elt F) Λ₀ .tc) α) (Q : α → sProp 𝕄) : sProp 𝕄 :=
  wp frame (wpE (defs₀ (F := F)) 𝒱₀ (c : Thread nD τ) none) Set.univ p Q

theorem run_bind {A : sProp 𝕄} {α β : Type} {p : Prog (TpuEff nD τ sig (Elt F) Λ₀ .tc) α} {k : α → Prog (TpuEff nD τ sig (Elt F) Λ₀ .tc) β} {Q : β → sProp 𝕄}
    (h : A ⊢ run c p (fun x => run c (k x) Q)) : A ⊢ run c (p >>= k) Q := by
  unfold run at *; rw [wp_bind]; exact h

theorem run_dev {A : sProp 𝕄} {α : Type} {k : Dev nD → Prog (TpuEff nD τ sig (Elt F) Λ₀ .tc) α} {Q : α → sProp 𝕄}
    (h : A ⊢ run c (k c) Q) : A ⊢ run c (.op .deviceId k) Q := by
  unfold run at *; rw [wp_deviceId]; exact h

/-! ## Loads and stores -/

/-- A load from a buffer the state holds. -/
theorem ld {α : Type} {Q : α → sProp 𝕄} {s : Shape} {e : EltTy} {M : Memref sig .tc .vmem s e} {r : LoadRect s} {hl : M.view.LoadsAt r}
    {S : Finset (M.view.loc (c : Thread nD τ)).2.ty.Idx} {q : PosShare TreeShare} {f} {A : sProp 𝕄}
    (hA : A ⊢ iprop(((M.view.loc (c : Thread nD τ)) ↦[S]{q} f) ∗ (((M.view.loc (c : Thread nD τ)) ↦[S]{q} f) -∗ A)))
    (hS : M.view.setOn r.set ⊆ S) {v} (hv : M.view.readAt (Elt F) r f = v)
    {k : (r.shape.Idx → Elt F e) → Prog (TpuEff nD τ sig (Elt F) Λ₀ .tc) α} :
    A ⊢ iprop((A -∗ run c (k v) Q) -∗ run c (.op (.load M r hl) k) Q) := by
  subst hv
  iintro HA Hk
  ihave ⟨HP, Hback⟩ := hA $$ HA
  iapply (wp_load 𝒱₀ (c : Thread nD τ) none Set.univ (m := M) (r := r) hS) $$ HP
  iintro HP
  iapply Hk
  iapply Hback
  iexact HP

/-- A load whose value is discarded. -/
theorem ldx {α : Type} {Q : α → sProp 𝕄} {s : Shape} {e : EltTy} {M : Memref sig .tc .vmem s e} {r : LoadRect s} {hl : M.view.LoadsAt r}
    {S : Finset (M.view.loc (c : Thread nD τ)).2.ty.Idx} {q : PosShare TreeShare} {f} {A : sProp 𝕄}
    (hA : A ⊢ iprop(((M.view.loc (c : Thread nD τ)) ↦[S]{q} f) ∗ (((M.view.loc (c : Thread nD τ)) ↦[S]{q} f) -∗ A)))
    (hS : M.view.setOn r.set ⊆ S)
    {k : (r.shape.Idx → Elt F e) → Prog (TpuEff nD τ sig (Elt F) Λ₀ .tc) α} :
    A ⊢ iprop((A -∗ run c (k (M.view.readAt (Elt F) r f)) Q) -∗ run c (.op (.load M r hl) k) Q) := ld c hA hS rfl

theorem st {α : Type} {Q : α → sProp 𝕄} {s : Shape} {e : EltTy} {M : Memref sig .tc .vmem s e} {r : Rect s} {w : r.shape.Idx → Elt F e} {Mk : Finset r.shape.Idx}
    {hx : (M.access r).Stores Mk} {hm : Mk = Finset.univ ∨ ∀ a, r.stride a = 1}
    {S : Finset ((M.access r).loc (c : Thread nD τ)).2.ty.Idx} {f g} {A A' : sProp 𝕄}
    (hA : A ⊢ iprop((((M.access r).loc (c : Thread nD τ)) ↦[S]{fullShare} f) ∗ ((((M.access r).loc (c : Thread nD τ)) ↦[S]{fullShare} g) -∗ A')))
    (hS : (M.access r).setOn Mk ⊆ S) (hg : (M.access r).write (Elt F) f w Mk = g)
    {k : PUnit → Prog (TpuEff nD τ sig (Elt F) Λ₀ .tc) α} :
    A ⊢ iprop((A' -∗ run c (k ⟨⟩) Q) -∗ run c (.op (.store M r w Mk hx hm) k) Q) := by
  subst hg
  iintro HA Hk
  ihave ⟨HP, Hback⟩ := hA $$ HA
  iapply (wp_store 𝒱₀ (c : Thread nD τ) none Set.univ hS) $$ HP
  iintro HP
  iapply Hk
  iapply Hback
  iexact HP

/-- Device `c`'s whole buffer `b`. -/
abbrev pt (b : Ref sig .tc) (f : b.ty.Contents (Elt F)) : sProp 𝕄 := ((c : Thread nD τ).loc b) ↦{fullShare} f

theorem has_same {β : Type} {A : sProp 𝕄} {P : β → sProp 𝕄} {x : β} {A' : β → sProp 𝕄} (h : Has A P x A') (y : β) : A ⊢ iprop(P x ∗ (P y -∗ A' y)) := by
  unfold Has at h
  iintro HA
  ihave ⟨HP, Hk⟩ := h $$ HA
  isplitl [HP]; · iexact HP
  iintro HP; iapply Hk; iexact HP

end Cert.Attn
end
-- ==== Proof.Compute.lean ====
/-
# The buffers of the local computation, and its operations

The state of the computation a device does before it talks to the others: its input and weights, which stay, and the buffers of
the queries, keys, values and partial products, which are filled in turn.
-/
module

public import proofs.«01_k».proof.Proof.Moves

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2)

variable {F : FTy → Type} [FloatOps F]

local notation "𝕄" => MT nD τ sig Unit (Elt F) ℕ UU ℕ

theorem zero2 : (![0, 0] : Fin 2 → ℕ) = fun _ => 0 := by decide
theorem zero3 : (![0, 0, 0] : Fin 3 → ℕ) = fun _ => 0 := by decide

variable (X : Dev nD → Vec F S2x512x1024 .f32) (WQ WK WV WO : Dev nD → Vec F S1024x1024 .f32) (c : Dev nD)

/-- The buffers of the computation. -/
def mem (q k v pa : FVec F S1024x1024 .f32) (p : FVec F S1024x1024 .bf16) : sProp 𝕄 :=
  iprop(pt c cc0_stg0_0 (X c) ∗ pt c cc0_stg1_0 (WQ c) ∗ pt c cc0_stg2_0 (WK c) ∗ pt c cc0_stg3_0 (WV c) ∗ pt c cc0_stg4_0 (WO c)
    ∗ pt c cc0_scratch0 q ∗ pt c cc0_scratch1 k ∗ pt c cc0_scratch2 v ∗ pt c cc0_scratch3 pa ∗ pt c cc0_scratch4 p)

section Has
variable (q k v pa : FVec F S1024x1024 .f32) (p : FVec F S1024x1024 .bf16)

theorem mem_x : Has (mem X WQ WK WV WO c q k v pa p) (pt c cc0_stg0_0) (X c) (fun x => mem (fun _ => x) WQ WK WV WO c q k v pa p) := by
  unfold mem; exact has_here _ _ _
theorem mem_wq : Has (mem X WQ WK WV WO c q k v pa p) (pt c cc0_stg1_0) (WQ c) (fun x => mem X (fun _ => x) WK WV WO c q k v pa p) := by
  unfold mem; exact has_there _ (has_here _ _ _)
theorem mem_wk : Has (mem X WQ WK WV WO c q k v pa p) (pt c cc0_stg2_0) (WK c) (fun x => mem X WQ (fun _ => x) WV WO c q k v pa p) := by
  unfold mem; exact has_there _ (has_there _ (has_here _ _ _))
theorem mem_wv : Has (mem X WQ WK WV WO c q k v pa p) (pt c cc0_stg3_0) (WV c) (fun x => mem X WQ WK (fun _ => x) WO c q k v pa p) := by
  unfold mem; exact has_there _ (has_there _ (has_there _ (has_here _ _ _)))
theorem mem_wo : Has (mem X WQ WK WV WO c q k v pa p) (pt c cc0_stg4_0) (WO c) (fun x => mem X WQ WK WV (fun _ => x) c q k v pa p) := by
  unfold mem; exact has_there _ (has_there _ (has_there _ (has_there _ (has_here _ _ _))))
theorem mem_q : Has (mem X WQ WK WV WO c q k v pa p) (pt c cc0_scratch0) q (fun q => mem X WQ WK WV WO c q k v pa p) := by
  unfold mem; exact has_there _ (has_there _ (has_there _ (has_there _ (has_there _ (has_here _ _ _)))))
theorem mem_k : Has (mem X WQ WK WV WO c q k v pa p) (pt c cc0_scratch1) k (fun k => mem X WQ WK WV WO c q k v pa p) := by
  unfold mem; exact has_there _ (has_there _ (has_there _ (has_there _ (has_there _ (has_there _ (has_here _ _ _))))))
theorem mem_v : Has (mem X WQ WK WV WO c q k v pa p) (pt c cc0_scratch2) v (fun v => mem X WQ WK WV WO c q k v pa p) := by
  unfold mem; exact has_there _ (has_there _ (has_there _ (has_there _ (has_there _ (has_there _ (has_there _ (has_here _ _ _)))))))
theorem mem_pa : Has (mem X WQ WK WV WO c q k v pa p) (pt c cc0_scratch3) pa (fun pa => mem X WQ WK WV WO c q k v pa p) := by
  unfold mem; exact has_there _ (has_there _ (has_there _ (has_there _ (has_there _ (has_there _ (has_there _ (has_there _ (has_here _ _ _))))))))
theorem mem_p : Has (mem X WQ WK WV WO c q k v pa p) (pt c cc0_scratch4) p (fun p => mem X WQ WK WV WO c q k v pa p) := by
  unfold mem; exact has_there _ (has_there _ (has_there _ (has_there _ (has_there _ (has_there _ (has_there _ (has_there _ (has_there _ (has_last _ _)))))))))

theorem get_x : mem X WQ WK WV WO c q k v pa p ⊢ iprop(pt c cc0_stg0_0 (X c) ∗ (pt c cc0_stg0_0 (X c) -∗ mem X WQ WK WV WO c q k v pa p)) := by
  have h := has_same (mem_x X WQ WK WV WO c q k v pa p) (X c); unfold mem at *; exact h
theorem get_wq : mem X WQ WK WV WO c q k v pa p ⊢ iprop(pt c cc0_stg1_0 (WQ c) ∗ (pt c cc0_stg1_0 (WQ c) -∗ mem X WQ WK WV WO c q k v pa p)) := by
  have h := has_same (mem_wq X WQ WK WV WO c q k v pa p) (WQ c); unfold mem at *; exact h
theorem get_wk : mem X WQ WK WV WO c q k v pa p ⊢ iprop(pt c cc0_stg2_0 (WK c) ∗ (pt c cc0_stg2_0 (WK c) -∗ mem X WQ WK WV WO c q k v pa p)) := by
  have h := has_same (mem_wk X WQ WK WV WO c q k v pa p) (WK c); unfold mem at *; exact h
theorem get_wv : mem X WQ WK WV WO c q k v pa p ⊢ iprop(pt c cc0_stg3_0 (WV c) ∗ (pt c cc0_stg3_0 (WV c) -∗ mem X WQ WK WV WO c q k v pa p)) := by
  have h := has_same (mem_wv X WQ WK WV WO c q k v pa p) (WV c); unfold mem at *; exact h
theorem get_wo : mem X WQ WK WV WO c q k v pa p ⊢ iprop(pt c cc0_stg4_0 (WO c) ∗ (pt c cc0_stg4_0 (WO c) -∗ mem X WQ WK WV WO c q k v pa p)) := by
  have h := has_same (mem_wo X WQ WK WV WO c q k v pa p) (WO c); unfold mem at *; exact h
theorem put_q (q' : FVec F S1024x1024 .f32) : mem X WQ WK WV WO c q k v pa p ⊢ iprop(pt c cc0_scratch0 q ∗ (pt c cc0_scratch0 q' -∗ mem X WQ WK WV WO c q' k v pa p)) :=
  has_same (mem_q X WQ WK WV WO c q k v pa p) q'
theorem put_k (k' : FVec F S1024x1024 .f32) : mem X WQ WK WV WO c q k v pa p ⊢ iprop(pt c cc0_scratch1 k ∗ (pt c cc0_scratch1 k' -∗ mem X WQ WK WV WO c q k' v pa p)) :=
  has_same (mem_k X WQ WK WV WO c q k v pa p) k'
theorem put_v (v' : FVec F S1024x1024 .f32) : mem X WQ WK WV WO c q k v pa p ⊢ iprop(pt c cc0_scratch2 v ∗ (pt c cc0_scratch2 v' -∗ mem X WQ WK WV WO c q k v' pa p)) :=
  has_same (mem_v X WQ WK WV WO c q k v pa p) v'
theorem put_pa (pa' : FVec F S1024x1024 .f32) : mem X WQ WK WV WO c q k v pa p ⊢ iprop(pt c cc0_scratch3 pa ∗ (pt c cc0_scratch3 pa' -∗ mem X WQ WK WV WO c q k v pa' p)) :=
  has_same (mem_pa X WQ WK WV WO c q k v pa p) pa'
theorem put_p (p' : FVec F S1024x1024 .bf16) : mem X WQ WK WV WO c q k v pa p ⊢ iprop(pt c cc0_scratch4 p ∗ (pt c cc0_scratch4 p' -∗ mem X WQ WK WV WO c q k v pa p')) :=
  has_same (mem_p X WQ WK WV WO c q k v pa p) p'
theorem get_q : mem X WQ WK WV WO c q k v pa p ⊢ iprop(pt c cc0_scratch0 q ∗ (pt c cc0_scratch0 q -∗ mem X WQ WK WV WO c q k v pa p)) := put_q X WQ WK WV WO c q k v pa p q
theorem get_k : mem X WQ WK WV WO c q k v pa p ⊢ iprop(pt c cc0_scratch1 k ∗ (pt c cc0_scratch1 k -∗ mem X WQ WK WV WO c q k v pa p)) := put_k X WQ WK WV WO c q k v pa p k
theorem get_v : mem X WQ WK WV WO c q k v pa p ⊢ iprop(pt c cc0_scratch2 v ∗ (pt c cc0_scratch2 v -∗ mem X WQ WK WV WO c q k v pa p)) := put_v X WQ WK WV WO c q k v pa p v
theorem get_pa : mem X WQ WK WV WO c q k v pa p ⊢ iprop(pt c cc0_scratch3 pa ∗ (pt c cc0_scratch3 pa -∗ mem X WQ WK WV WO c q k v pa p)) := put_pa X WQ WK WV WO c q k v pa p pa
theorem get_p : mem X WQ WK WV WO c q k v pa p ⊢ iprop(pt c cc0_scratch4 p ∗ (pt c cc0_scratch4 p -∗ mem X WQ WK WV WO c q k v pa p)) := put_p X WQ WK WV WO c q k v pa p p
end Has

/-- The state while the heads are computed. -/
abbrev memH (pa : FVec F S1024x1024 .f32) (p : FVec F S1024x1024 .bf16) (n : ℕ) : sProp 𝕄 :=
  mem X WQ WK WV WO c (qAt X WQ WK WV c n) (kOf X WK c) (vOf X WV c) pa p

section Heads
variable {n : ℕ} (hn : n < 16) {off : Fin 2 → ℕ} (ho : off = headOff n) (inb : ∀ a, off a + S512x128.size a ≤ S1024x1024.size a)
include hn ho

theorem read_q : (Memref.whole cc0_scratch0 : Memref sig .tc .vmem S1024x1024 .f32).view.readAt (Elt F) (Rect.unit (s := S1024x1024) off S512x128.size inb).toLoadRect
    (qAt X WQ WK WV c n) = blk (qOf X WQ c) n := (read_head _ hn ho inb).trans (blk_qAt X WQ WK WV c hn)
theorem read_k : (Memref.whole cc0_scratch1 : Memref sig .tc .vmem S1024x1024 .f32).view.readAt (Elt F) (Rect.unit (s := S1024x1024) off S512x128.size inb).toLoadRect
    (kOf X WK c) = blk (kOf X WK c) n := read_head _ hn ho inb
theorem read_v : (Memref.whole cc0_scratch2 : Memref sig .tc .vmem S1024x1024 .f32).view.readAt (Elt F) (Rect.unit (s := S1024x1024) off S512x128.size inb).toLoadRect
    (vOf X WV c) = blk (vOf X WV c) n := read_head _ hn ho inb
theorem write_q {w : FVec F S512x128 .f32} (hw : w = hd X WQ WK WV c n) :
    (((Memref.whole cc0_scratch0 : Memref sig .tc .vmem S1024x1024 .f32).access (Rect.unit (s := S1024x1024) off S512x128.size inb)).write (Elt F)
      (qAt X WQ WK WV c n) w Finset.univ : S1024x1024.Idx → Elt F .f32) = qAt X WQ WK WV c (n + 1) := by
  subst hw; exact write_head X WQ WK WV c hn ho inb
end Heads

section Steps
variable {n : ℕ} {off : Fin 2 → ℕ} {inb : ∀ a, off a + S512x128.size a ≤ S1024x1024.size a}
  {pa : FVec F S1024x1024 .f32} {p : FVec F S1024x1024 .bf16}

/-- The block of a head, as the rectangle its accesses go through. -/
abbrev headRect (off : Fin 2 → ℕ) (inb : ∀ a, off a + S512x128.size a ≤ S1024x1024.size a) : Rect S1024x1024 := Rect.unit (s := S1024x1024) off S512x128.size inb
abbrev qM : Memref sig .tc .vmem S1024x1024 .f32 := Memref.whole cc0_scratch0
abbrev kM : Memref sig .tc .vmem S1024x1024 .f32 := Memref.whole cc0_scratch1
abbrev vM : Memref sig .tc .vmem S1024x1024 .f32 := Memref.whole cc0_scratch2

theorem ld_q {α : Type} {Q : α → sProp 𝕄} (hn : n < 16) (ho : off = headOff n) {hl : qM.view.LoadsAt (headRect off inb).toLoadRect}
    {k : ((headRect off inb).shape.Idx → Elt F .f32) → Prog (TpuEff nD τ sig (Elt F) Λ₀ .tc) α} :
    memH X WQ WK WV WO c pa p n ⊢ iprop((memH X WQ WK WV WO c pa p n -∗ run c (k (blk (qOf X WQ c) n)) Q)
      -∗ run c (.op (.load qM (headRect off inb).toLoadRect hl) k) Q) :=
  ld c (M := qM) (r := (headRect off inb).toLoadRect) (S := Finset.univ) (q := fullShare) (f := qAt X WQ WK WV c n) (get_q X WQ WK WV WO c _ _ _ pa p) (Finset.subset_univ _) (read_q X WQ WK WV c hn ho inb)
theorem ld_k {α : Type} {Q : α → sProp 𝕄} (hn : n < 16) (ho : off = headOff n) {hl : kM.view.LoadsAt (headRect off inb).toLoadRect}
    {k : ((headRect off inb).shape.Idx → Elt F .f32) → Prog (TpuEff nD τ sig (Elt F) Λ₀ .tc) α} :
    memH X WQ WK WV WO c pa p n ⊢ iprop((memH X WQ WK WV WO c pa p n -∗ run c (k (blk (kOf X WK c) n)) Q)
      -∗ run c (.op (.load kM (headRect off inb).toLoadRect hl) k) Q) :=
  ld c (M := kM) (r := (headRect off inb).toLoadRect) (S := Finset.univ) (q := fullShare) (f := kOf X WK c) (get_k X WQ WK WV WO c _ _ _ pa p) (Finset.subset_univ _) (read_k X WK c hn ho inb)
theorem ld_v {α : Type} {Q : α → sProp 𝕄} (hn : n < 16) (ho : off = headOff n) {hl : vM.view.LoadsAt (headRect off inb).toLoadRect}
    {k : ((headRect off inb).shape.Idx → Elt F .f32) → Prog (TpuEff nD τ sig (Elt F) Λ₀ .tc) α} :
    memH X WQ WK WV WO c pa p n ⊢ iprop((memH X WQ WK WV WO c pa p n -∗ run c (k (blk (vOf X WV c) n)) Q)
      -∗ run c (.op (.load vM (headRect off inb).toLoadRect hl) k) Q) :=
  ld c (M := vM) (r := (headRect off inb).toLoadRect) (S := Finset.univ) (q := fullShare) (f := vOf X WV c) (get_v X WQ WK WV WO c _ _ _ pa p) (Finset.subset_univ _) (read_v X WV c hn ho inb)
theorem st_q {α : Type} {Q : α → sProp 𝕄} (hn : n < 16) (ho : off = headOff n) {w : (headRect off inb).shape.Idx → Elt F .f32} (hw : w = hd X WQ WK WV c n)
    {hx : (qM.access (headRect off inb)).Stores Finset.univ} {hm : (Finset.univ : Finset (headRect off inb).shape.Idx) = Finset.univ ∨ ∀ a, (headRect off inb).stride a = 1}
    {k : PUnit → Prog (TpuEff nD τ sig (Elt F) Λ₀ .tc) α} :
    memH X WQ WK WV WO c pa p n ⊢ iprop((memH X WQ WK WV WO c pa p (n + 1) -∗ run c (k ⟨⟩) Q)
      -∗ run c (.op (.store qM (headRect off inb) w Finset.univ hx hm) k) Q) :=
  st c (g := qAt X WQ WK WV c (n + 1)) (by exact put_q X WQ WK WV WO c _ _ _ pa p _) (Finset.subset_univ _) (by exact write_q X WQ WK WV c hn ho inb hw)
end Steps

end Cert.Attn
end
-- ==== Proof.Exchange.lean ====
/-
# The operations of the exchange at this kernel's offsets, and the loads from what arrived

The kernel's device numbers and offsets, as the step of a phase; one lemma per kind of wait; and the loads and stores of the rows
that arrive and of the result.
-/
module

public import proofs.«01_k».proof.Proof.Compute

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2)

variable {F : FTy → Type} [FloatOps F]

local notation "𝕄" => MT nD τ sig Unit (Elt F) ℕ UU ℕ

/-! ## Devices and offsets -/

/-- The device the kernel computes for step `w`. -/
def devAt (c : Dev nD) (w : BitVec 32) : ℕ :=
  (Scalar.addi 0#32 (Scalar.muli (Scalar.remsi (Scalar.addi (Scalar.remsi (Scalar.divsi (Dev.word c) 1#32) 32#32) w) 32#32) 1#32)).toNat
theorem devAt_all : ∀ c : Dev nD, ∀ n : Fin 32, devAt c (BitVec.ofNat 32 n.val) = (c.val + n.val) % 32 := by decide +kernel

theorem dev_at (c : Dev nD) {n : ℕ} (hn : n < 32) {h : devAt c (BitVec.ofNat 32 n) < nD} : (⟨devAt c (BitVec.ofNat 32 n), h⟩ : Dev nD) = peer c n :=
  Fin.ext (devAt_all c ⟨n, hn⟩)

theorem off1_at (c : Dev nD) {n : ℕ} (h1 : 1 ≤ n) (hn : n < 32) : k0_off1 c (BitVec.ofNat 32 n) = rowOff (peer c n).val := by
  have h := k0_off1_eq c ⟨n - 1, by omega⟩
  rw [show 1 + (⟨n - 1, by omega⟩ : Fin 31).val = n from by show 1 + (n - 1) = n; omega] at h
  rw [h, peer_val, show c.val + (⟨n - 1, by omega⟩ : Fin 31).val + 1 = c.val + n from by show c.val + (n - 1) + 1 = _; omega]
theorem off4_at (c : Dev nD) {n : ℕ} (h1 : 1 ≤ n) (hn : n < 32) : k0_off4 c (BitVec.ofNat 32 n) = rowOff (peer c (32 - n)).val := by
  have h := k0_off4_eq c ⟨n - 1, by omega⟩
  rw [show 1 + (⟨n - 1, by omega⟩ : Fin 31).val = n from by show 1 + (n - 1) = n; omega] at h
  rw [h, peer_val, show c.val + 31 - (⟨n - 1, by omega⟩ : Fin 31).val = c.val + (32 - n) from by show c.val + 31 - (n - 1) = _; omega]
theorem off5_at (c : Dev nD) {n : ℕ} (h1 : 1 ≤ n) (hn : n < 32) : k0_off5 c (BitVec.ofNat 32 n) = rowOff (peer c (32 - n)).val := by
  have h := k0_off5_eq c ⟨n - 1, by omega⟩
  rw [show 1 + (⟨n - 1, by omega⟩ : Fin 31).val = n from by show 1 + (n - 1) = n; omega] at h
  rw [h, peer_val, show c.val + 31 - (⟨n - 1, by omega⟩ : Fin 31).val = c.val + (32 - n) from by show c.val + 31 - (n - 1) = _; omega]

variable (P16 : Dev nD → S1024x1024.Idx → Elt F .bf16) (RED : Dev nD → S32x1024.Idx → Elt F .bf16)
variable (K : Dev nD × Fin 97 → ℕ) (c : Dev nD)

/-! ## The four kinds of waits -/

/-- What each wait of a phase yields. -/
def payS0 (j : ℕ) : sProp 𝕄 := p16Rows c (peer c j).val (P16 c)
def payS1 (j : ℕ) : sProp 𝕄 := redPts c (Transfers.shareTokN fullShare j) (RED c)
def payR (j : ℕ) : sProp 𝕄 := gatSlot c j (gatOf P16 c)
def payG (j : ℕ) : sProp 𝕄 := o16Rows c (peer c (32 - j)).val (o16Of RED)

section Waits
variable {n : ℕ} {sem : DmaSem sig} {sp sp' : Space} {s s' : Shape} {e e' : EltTy} {src : Memref sig .tc sp s e} {dst : Memref sig .tc sp' s' e'}

theorem wait_recv {α : Type} {Q : α → sProp 𝕄} (h1 : 1 ≤ n) (hn : n < 32) (hsem : sem = ds (38 + n)) (hN : dst.view.dmaCredit = N) {h h'}
    {k : PUnit → Prog (TpuEff nD τ sig (Elt F) Λ₀ .tc) α} :
    stW P16 RED K c sR 0 (payR P16 c) (owG c 1) n ⊢ iprop((stW P16 RED K c sR 0 (payR P16 c) (owG c 1) (n + 1) -∗ run c (k ⟨⟩) Q)
      -∗ run c (.op (.waitDma2 sem src dst h h') k) Q) :=
  step_wait P16 RED K c (q := 38 + n) rfl (by omega) (by omega) h1 hn (duties_recv P16 RED c h1 hn) (pay_recv P16 RED c hn 0)
    (by rw [lv_dma _ (by omega), if_neg (by omega), if_pos (by omega)]; exact above_owG (by decide) c 1 (by decide)) hsem hN

theorem wait_send0 {α : Type} {Q : α → sProp 𝕄} (h1 : 1 ≤ n) (hn : n < 32) (hsem : sem = ds (6 + n)) (hN : dst.view.dmaCredit = N) {h h'}
    {k : PUnit → Prog (TpuEff nD τ sig (Elt F) Λ₀ .tc) α} :
    stW P16 RED K c sS 0 (payS0 P16 c) (owG c 1) n ⊢ iprop((stW P16 RED K c sS 0 (payS0 P16 c) (owG c 1) (n + 1) -∗ run c (k ⟨⟩) Q)
      -∗ run c (.op (.waitDma2 sem src dst h h') k) Q) :=
  step_wait P16 RED K c (q := 6 + n) rfl (by omega) (by omega) h1 hn (duties_send P16 RED c h1 hn (by decide)) (pay_send0 P16 RED c hn 0)
    (by rw [lv_dma _ (by omega), if_pos (by omega)]; exact above_owG (by decide) c 1 (by decide)) hsem hN

theorem wait_gath {α : Type} {Q : α → sProp 𝕄} (h1 : 1 ≤ n) (hn : n < 32) (hsem : sem = ds (70 + n)) (hN : dst.view.dmaCredit = N) {h h'}
    {k : PUnit → Prog (TpuEff nD τ sig (Elt F) Λ₀ .tc) α} :
    stW P16 RED K c sG 0 (payG RED c) 0 n ⊢ iprop((stW P16 RED K c sG 0 (payG RED c) 0 (n + 1) -∗ run c (k ⟨⟩) Q)
      -∗ run c (.op (.waitDma2 sem src dst h h') k) Q) :=
  step_wait P16 RED K c (q := 70 + n) rfl (by omega) (by omega) h1 hn (duties_gath P16 RED c h1 hn) (pay_gath P16 RED c hn 0) (above_zero _) hsem hN

theorem wait_send1 {α : Type} {Q : α → sProp 𝕄} (h1 : 1 ≤ n) (hn : n < 32) (hsem : sem = ds (6 + n)) (hN : dst.view.dmaCredit = N) {h h'}
    {k : PUnit → Prog (TpuEff nD τ sig (Elt F) Λ₀ .tc) α} :
    stW P16 RED K c sS 1 (payS1 RED c) 0 n ⊢ iprop((stW P16 RED K c sS 1 (payS1 RED c) 0 (n + 1) -∗ run c (k ⟨⟩) Q)
      -∗ run c (.op (.waitDma2 sem src dst h h') k) Q) :=
  step_wait P16 RED K c (q := 6 + n) rfl (by omega) (by omega) h1 hn (duties_send P16 RED c h1 hn (by decide)) (pay_send1 P16 RED c hn 0) (above_zero _) hsem hN
end Waits

/-! ## Loads from what arrived -/

/-- The payload of the wait just done can be borrowed. -/
theorem borrow {cell : ℕ → SemLoc sig} {R : ℕ} {Pay : ℕ → sProp 𝕄} {O : CellTallies nD τ sig Unit} {n : ℕ} (h1 : 1 ≤ n) :
    stW P16 RED K c cell R Pay O (n + 1) ⊢ iprop(Pay n ∗ (Pay n -∗ stW P16 RED K c cell R Pay O (n + 1))) := by
  unfold stW
  rw [bigSep_Ico_succ_top h1]
  iintro ⟨HR, HO, Hrest, ⟨Ha, Hr, Hp⟩, Hdone⟩
  isplitl [Hp]; · iexact Hp
  iintro Hp
  isplitl [HR]; · iexact HR
  isplitl [HO]; · iexact HO
  isplitl [Hrest]; · iexact Hrest
  isplitl [Ha Hr Hp]
  · isplitl [Ha]; · iexact Ha
    isplitl [Hr]; · iexact Hr
    iexact Hp
  iexact Hdone

abbrev gatB : Memref sig .tc .vmem S32x32x1024 .bf16 := Memref.whole cc0_scratch5
abbrev o16B : Memref sig .tc .vmem S1024x1024 .bf16 := Memref.whole cc0_scratch7
abbrev outB : Memref sig .tc .vmem S1024x1024 .f32 := Memref.whole cc0_stg5_0
abbrev paB : Memref sig .tc .vmem S1024x1024 .f32 := Memref.whole cc0_scratch3
abbrev slotRect (off : Fin 3 → ℕ) (inb : ∀ a, off a + S1x32x1024.size a ≤ S32x32x1024.size a) : Rect S32x32x1024 := Rect.unit (s := S32x32x1024) off S1x32x1024.size inb
abbrev rowRect (off : Fin 2 → ℕ) (inb : ∀ a, off a + S32x1024.size a ≤ S1024x1024.size a) : Rect S1024x1024 := Rect.unit (s := S1024x1024) off S32x1024.size inb

theorem setOn_gatB (M : Finset S32x32x1024.Idx) : gatB.view.setOn M = M := Finset.map_refl
theorem setOn_o16B (M : Finset S1024x1024.Idx) : o16B.view.setOn M = M := Finset.map_refl

theorem ld_slot {α : Type} {Q : α → sProp 𝕄} {n : ℕ} (h1 : 1 ≤ n) (hn : n < 32) {O} {off : Fin 3 → ℕ} {inb : ∀ a, off a + S1x32x1024.size a ≤ S32x32x1024.size a}
    (ho : off = slotOff n) {hl : gatB.view.LoadsAt (slotRect off inb).toLoadRect}
    {k : ((slotRect off inb).shape.Idx → Elt F .bf16) → Prog (TpuEff nD τ sig (Elt F) Λ₀ .tc) α} :
    stW P16 RED K c sR 0 (payR P16 c) O (n + 1) ⊢ iprop((stW P16 RED K c sR 0 (payR P16 c) O (n + 1) -∗ run c (k (slotV c P16 n)) Q)
      -∗ run c (.op (.load gatB (slotRect off inb).toLoadRect hl) k) Q) :=
  ld c (M := gatB) (r := (slotRect off inb).toLoadRect) (S := slotOf n) (q := fullShare) (f := gatOf P16 c)
    (borrow P16 RED K c (cell := sR) (Pay := payR P16 c) h1)
    (by subst ho; rw [setOn_gatB]; exact (rect_slot n inb).le)
    (read_slot c P16 hn ho inb)

/-- Rows `32 t …` of the 16-bit result, as loaded. -/
def chunk16 (f : FVec F S1024x1024 .bf16) (t : ℕ) : Vec F S32x1024 .bf16 := fun i => f (ix2 ⟨(32 * t + (i 0).val) % 1024, Nat.mod_lt _ (by decide)⟩ (i 1))

theorem read_chunk16 (f : FVec F S1024x1024 .bf16) {t : ℕ} (ht : t < 32) {off : Fin 2 → ℕ} (ho : off = rowOff t) (h : ∀ a, off a + S32x1024.size a ≤ S1024x1024.size a) :
    (fun i => f ((Rect.unit (s := S1024x1024) off S32x1024.size h).emb i)) = chunk16 f t := by
  subst ho
  funext i
  obtain ⟨e0, e1⟩ := chunk_emb t h i
  have h0 : (i 0).val < 32 := (i 0).isLt
  refine congrArg f ((eq_ix2 _).trans (congrArg₂ ix2 (Fin.ext ?_) (Fin.ext e1)))
  rw [e0]; exact (Nat.mod_eq_of_lt (by omega)).symm

theorem ld_o16 {α : Type} {Q : α → sProp 𝕄} {n : ℕ} (h1 : 1 ≤ n) (hn : n < 32) {O} {off : Fin 2 → ℕ} {inb : ∀ a, off a + S32x1024.size a ≤ S1024x1024.size a}
    (ho : off = rowOff (peer c (32 - n)).val) {hl : o16B.view.LoadsAt (rowRect off inb).toLoadRect}
    {k : ((rowRect off inb).shape.Idx → Elt F .bf16) → Prog (TpuEff nD τ sig (Elt F) Λ₀ .tc) α} :
    stW P16 RED K c sG 0 (payG RED c) O (n + 1) ⊢ iprop((stW P16 RED K c sG 0 (payG RED c) O (n + 1)
        -∗ run c (k (chunk16 (o16Of RED : FVec F S1024x1024 .bf16) (peer c (32 - n)).val)) Q)
      -∗ run c (.op (.load o16B (rowRect off inb).toLoadRect hl) k) Q) :=
  ld c (M := o16B) (r := (rowRect off inb).toLoadRect) (S := rowsOf (peer c (32 - n)).val) (q := fullShare) (f := o16Of RED)
    (borrow P16 RED K c (cell := sG) (Pay := payG RED c) h1)
    (by subst ho; rw [setOn_o16B]; exact (rect_rows _ inb).le)
    (read_chunk16 _ (dlt _) ho inb)

/-! ## The result -/

/-- The result with the rows of `c` and of the first `n` arrivals done. -/
def outAt (g : FVec F S1024x1024 .f32) (n : ℕ) : sProp 𝕄 :=
  iprop(∃ f : FVec F S1024x1024 .f32, ⌜∀ i : S1024x1024.Idx, ((i 0).val / 32 = c.val ∨ ∃ j, 1 ≤ j ∧ j < n ∧ (i 0).val / 32 = (peer c (32 - j)).val) → f i = g i⌝ ∗ pt c cc0_stg5_0 f)

/-- The rows that `c` itself summed. -/
theorem st_own {α : Type} {Q : α → sProp 𝕄} {g f : FVec F S1024x1024 .f32} {off : Fin 2 → ℕ} {inb : ∀ a, off a + S32x1024.size a ≤ S1024x1024.size a}
    (ho : off = rowOff c.val) {w : (rowRect off inb).shape.Idx → Elt F .f32} (hw : w = chunk g c.val)
    {hx : (outB.access (rowRect off inb)).Stores Finset.univ} {hm : (Finset.univ : Finset (rowRect off inb).shape.Idx) = Finset.univ ∨ ∀ a, (rowRect off inb).stride a = 1}
    {k : PUnit → Prog (TpuEff nD τ sig (Elt F) Λ₀ .tc) α} :
    pt c cc0_stg5_0 f ⊢ iprop((outAt c g 1 -∗ run c (k ⟨⟩) Q) -∗ run c (.op (.store outB (rowRect off inb) w Finset.univ hx hm) k) Q) := by
  iintro HP Hk
  iapply (wp_store 𝒱₀ (c : Thread nD τ) none Set.univ (m := outB) (r := rowRect off inb) (Finset.subset_univ _)) $$ HP
  iintro HP
  iapply Hk
  unfold outAt
  iexists _
  isplitr
  rotate_left
  · iexact HP
  · ipureintro
    intro i hi
    refine write_chunk g f (dlt c) ho inb hw (D := fun _ => False) (fun _ h => h.elim) i (Or.inr ?_)
    rcases hi with h | ⟨j, h1, h2, -⟩
    · exact h
    · omega

theorem st_out {α : Type} {Q : α → sProp 𝕄} {g : FVec F S1024x1024 .f32} {n : ℕ} (h1 : 1 ≤ n) {off : Fin 2 → ℕ} {inb : ∀ a, off a + S32x1024.size a ≤ S1024x1024.size a}
    (ho : off = rowOff (peer c (32 - n)).val) {w : (rowRect off inb).shape.Idx → Elt F .f32} (hw : w = chunk g (peer c (32 - n)).val)
    {hx : (outB.access (rowRect off inb)).Stores Finset.univ} {hm : (Finset.univ : Finset (rowRect off inb).shape.Idx) = Finset.univ ∨ ∀ a, (rowRect off inb).stride a = 1}
    {k : PUnit → Prog (TpuEff nD τ sig (Elt F) Λ₀ .tc) α} :
    outAt c g n ⊢ iprop((outAt c g (n + 1) -∗ run c (k ⟨⟩) Q) -∗ run c (.op (.store outB (rowRect off inb) w Finset.univ hx hm) k) Q) := by
  unfold outAt
  iintro ⟨%f, %hf, HP⟩ Hk
  iapply (wp_store 𝒱₀ (c : Thread nD τ) none Set.univ (m := outB) (r := rowRect off inb) (Finset.subset_univ _)) $$ HP
  iintro HP
  iapply Hk
  iexists _
  isplitr
  rotate_left
  · iexact HP
  · ipureintro
    intro i hi
    refine write_chunk g f (dlt (peer c (32 - n))) ho inb hw (D := fun t => t = c.val ∨ ∃ j, 1 ≤ j ∧ j < n ∧ t = (peer c (32 - j)).val) hf i ?_
    rcases hi with h | ⟨j, hj1, hj2, h⟩
    · exact Or.inl (Or.inl h)
    · rcases Nat.lt_succ_iff_lt_or_eq.mp hj2 with hl | rfl
      · exact Or.inl (Or.inr ⟨j, hj1, hl, h⟩)
      · exact Or.inr h

/-- A load of the result whose value is discarded. -/
theorem ldx_out {α : Type} {Q : α → sProp 𝕄} {g : FVec F S1024x1024 .f32} {n : ℕ} {off : Fin 2 → ℕ} {inb : ∀ a, off a + S32x1024.size a ≤ S1024x1024.size a}
    {hl : outB.view.LoadsAt (rowRect off inb).toLoadRect}
    {k : ((rowRect off inb).shape.Idx → Elt F .f32) → Prog (TpuEff nD τ sig (Elt F) Λ₀ .tc) α} (hk : ∀ v w, k v = k w) :
    outAt c g n ⊢ iprop((outAt c g n -∗ run c (k (outB.view.readAt (Elt F) (rowRect off inb).toLoadRect g)) Q)
      -∗ run c (.op (.load outB (rowRect off inb).toLoadRect hl) k) Q) := by
  unfold outAt
  iintro ⟨%f, %hf, HP⟩ Hk
  iapply (wp_load 𝒱₀ (c : Thread nD τ) none Set.univ (m := outB) (r := (rowRect off inb).toLoadRect) (Finset.subset_univ _)) $$ HP
  iintro HP
  rw [hk (outB.view.readAt (Elt F) (rowRect off inb).toLoadRect f) (outB.view.readAt (Elt F) (rowRect off inb).toLoadRect g)]
  iapply Hk
  iexists f
  isplitr
  · ipureintro; exact hf
  iexact HP

/-- The whole result is done. -/
theorem out_done (g : FVec F S1024x1024 .f32) : outAt c g 32 ⊢ (pt c cc0_stg5_0 g : sProp 𝕄) := by
  unfold outAt
  iintro ⟨%f, %hf, HP⟩
  have : f = g := by
    funext i
    have hc := dlt c
    have hi : (i 0).val < 1024 := (i 0).isLt
    by_cases h : (i 0).val / 32 = c.val
    · exact hf i (Or.inl h)
    · refine hf i (Or.inr ⟨(c.val + 32 - (i 0).val / 32) % 32, by omega, by omega, ?_⟩)
      rw [peer_val]; omega
  rw [this]
  iexact HP

/-- What is lent comes back, whatever it has become. -/
theorem self {P P' : sProp 𝕄} : P ⊢ iprop(P ∗ (P' -∗ P')) := by
  iintro HP
  isplitl; · iexact HP
  iintro HP; iexact HP

section Result
variable (X : Dev nD → Vec F S2x512x1024 .f32) (WQ WK WV WO : Dev nD → Vec F S1024x1024 .f32)

theorem chunk_own : acc X WQ WK WV WO c 31 = chunk (outOf X WQ WK WV WO c) c.val := by
  funext i
  have h0 : (i 0).val < 32 := (i 0).isLt
  have hc := dlt c
  unfold chunk outOf
  rw [if_pos (show (32 * c.val + (i 0).val) % 1024 / 32 = c.val by omega)]
  refine congrArg (acc X WQ WK WV WO c 31) ((eq_ix2 i).trans (congrArg₂ ix2 (Fin.ext ?_) rfl))
  show (i 0).val = (32 * c.val + (i 0).val) % 1024 % 32
  omega

theorem chunk_back {n : ℕ} (h1 : 1 ≤ n) (hn : n < 32) :
    extf .f32 (chunk16 (o16Of (redOf X WQ WK WV WO) : FVec F S1024x1024 .bf16) (peer c (32 - n)).val) bitsLt_bf16_f32
      = chunk (outOf X WQ WK WV WO c) (peer c (32 - n)).val := by
  funext i
  have h0 : (i 0).val < 32 := (i 0).isLt
  have hc := dlt c
  have hp := peer_val c (32 - n)
  unfold chunk outOf
  rw [if_neg (show ¬ (32 * (peer c (32 - n)).val + (i 0).val) % 1024 / 32 = c.val by rw [hp]; omega)]
  rfl
end Result

end Cert.Attn
end
-- ==== Proof.Phases.lean ====
/-
# From one phase of the exchange to the next

What a device holds besides the phase it is in, and how the resources are regrouped when the next phase starts.
-/
module

public import proofs.«01_k».proof.Proof.Exchange

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P16 : Dev nD → S1024x1024.Idx → Elt F .bf16) (RED : Dev nD → S32x1024.Idx → Elt F .bf16)
variable (K : Dev nD × Fin 97 → ℕ) (c : Dev nD)

/-! ## Cutting buffers into pieces -/

theorem rows_disjoint {t t' : ℕ} (h : t ≠ t') : Disjoint (rowsOf t) (rowsOf t') :=
  Finset.disjoint_left.mpr fun i h1 h2 => h (((Finset.mem_filter.mp h1).2).symm.trans (Finset.mem_filter.mp h2).2)
theorem slots_disjoint {t t' : ℕ} (h : t ≠ t') : Disjoint (slotOf t) (slotOf t') :=
  Finset.disjoint_left.mpr fun i h1 h2 => h (((Finset.mem_filter.mp h1).2).symm.trans (Finset.mem_filter.mp h2).2)

theorem rows_cover {K : ℕ → ℕ} (h : ∀ t < 32, ∃ j < 32, K j = t) : (Finset.Ico 0 32).biUnion (fun j => rowsOf (K j)) = Finset.univ := by
  refine Finset.eq_univ_iff_forall.mpr fun i => ?_
  have hi : (i 0).val < 1024 := (i 0).isLt
  obtain ⟨j, hj, e⟩ := h ((i 0).val / 32) (by omega)
  exact Finset.mem_biUnion.mpr ⟨j, Finset.mem_Ico.mpr ⟨Nat.zero_le _, hj⟩, Finset.mem_filter.mpr ⟨Finset.mem_univ _, e.symm⟩⟩
theorem slots_cover {K : ℕ → ℕ} (h : ∀ t < 32, ∃ j < 32, K j = t) : (Finset.Ico 0 32).biUnion (fun j => slotOf (K j)) = Finset.univ := by
  refine Finset.eq_univ_iff_forall.mpr fun i => ?_
  obtain ⟨j, hj, e⟩ := h (i 0).val (i 0).isLt
  exact Finset.mem_biUnion.mpr ⟨j, Finset.mem_Ico.mpr ⟨Nat.zero_le _, hj⟩, Finset.mem_filter.mpr ⟨Finset.mem_univ _, e.symm⟩⟩

/-- Going round the mesh from `c`, in either direction, meets every device once. -/
theorem on_cover (t : ℕ) (ht : t < 32) : ∃ j < 32, (peer c j).val = t := by
  have := dlt c
  exact ⟨(t + 32 - c.val) % 32, by omega, by rw [peer_val]; omega⟩
theorem back_cover (t : ℕ) (ht : t < 32) : ∃ j < 32, (peer c (32 - j)).val = t := by
  have := dlt c
  exact ⟨(c.val + 32 - t) % 32, by omega, by rw [peer_val]; omega⟩
theorem on_inj (j : ℕ) (hj : j ∈ Finset.Ico 0 32) (j' : ℕ) (hj' : j' ∈ Finset.Ico 0 32) (h : j ≠ j') : (peer c j).val ≠ (peer c j').val := by
  have := Finset.mem_Ico.mp hj; have := Finset.mem_Ico.mp hj'; have := dlt c
  rw [peer_val, peer_val]; omega
theorem back_inj (j : ℕ) (hj : j ∈ Finset.Ico 0 32) (j' : ℕ) (hj' : j' ∈ Finset.Ico 0 32) (h : j ≠ j') : (peer c (32 - j)).val ≠ (peer c (32 - j')).val := by
  have := Finset.mem_Ico.mp hj; have := Finset.mem_Ico.mp hj'; have := dlt c
  rw [peer_val, peer_val]; omega

theorem p16_cut (f : FVec F S1024x1024 .bf16) : (pt c cc0_scratch4 f : sProp 𝕄) = bigSep (Finset.Ico 0 32) fun j => p16Rows c (peer c j).val f := by
  unfold pt p16Rows
  exact (congrArg (fun S => (((c : Thread nD τ).loc cc0_scratch4) ↦[S]{fullShare} f : sProp 𝕄)) (rows_cover (on_cover c))).symm.trans
    (pointsTo_biUnion _ _ fun j hj j' hj' h => rows_disjoint (on_inj c j hj j' hj' h))
theorem o16_cut (f : FVec F S1024x1024 .bf16) : (pt c cc0_scratch7 f : sProp 𝕄) = bigSep (Finset.Ico 0 32) fun j => o16Rows c (peer c j).val f := by
  unfold pt o16Rows
  exact (congrArg (fun S => (((c : Thread nD τ).loc cc0_scratch7) ↦[S]{fullShare} f : sProp 𝕄)) (rows_cover (on_cover c))).symm.trans
    (pointsTo_biUnion _ _ fun j hj j' hj' h => rows_disjoint (on_inj c j hj j' hj' h))
theorem gat_cut (f : S32x32x1024.Idx → Elt F .bf16) : (pt c cc0_scratch5 f : sProp 𝕄) = bigSep (Finset.Ico 0 32) fun j => gatSlot c ((32 - j) % 32) f := by
  unfold pt gatSlot
  exact (congrArg (fun S => (((c : Thread nD τ).loc cc0_scratch5) ↦[S]{fullShare} f : sProp 𝕄))
      (slots_cover (K := fun j => (32 - j) % 32) fun t ht => ⟨(32 - t) % 32, by omega, by omega⟩)).symm.trans
    (pointsTo_biUnion _ _ fun j hj j' hj' h => slots_disjoint (by
      have := Finset.mem_Ico.mp hj; have := Finset.mem_Ico.mp hj'; omega))

theorem o16_join (fs : ℕ → FVec F S1024x1024 .bf16) : (bigSep (Finset.Ico 0 32) fun j => o16Rows c (peer c (32 - j)).val (fs j)) ⊢ (iprop(∃ f, pt c cc0_scratch7 f) : sProp 𝕄) := by
  unfold pt o16Rows
  have h := pointsTo_biUnion_join (Val := Elt F) (Ix := Unit) (Name := ℕ) (U := UU) (Lvl := ℕ) (ℓ := (c : Thread nD τ).loc cc0_scratch7) (q := fullShare)
    (Finset.Ico 0 32) (fun j => rowsOf (peer c (32 - j)).val) fs (fs 0) fun j hj j' hj' h => rows_disjoint (back_inj c j hj j' hj' h)
  refine BIBase.Entails.trans h ?_
  iintro ⟨%g, -, H⟩
  iexists g
  iapply (Entails.of_eq (congrArg (fun S => (((c : Thread nD τ).loc cc0_scratch7) ↦[S]{fullShare} g : sProp 𝕄)) (rows_cover (back_cover c))))
  iexact H
theorem gat_join (fs : ℕ → S32x32x1024.Idx → Elt F .bf16) : (bigSep (Finset.Ico 0 32) fun j => gatSlot c j (fs j)) ⊢ (iprop(∃ f, pt c cc0_scratch5 f) : sProp 𝕄) := by
  unfold pt gatSlot
  have h := pointsTo_biUnion_join (Val := Elt F) (Ix := Unit) (Name := ℕ) (U := UU) (Lvl := ℕ) (ℓ := (c : Thread nD τ).loc cc0_scratch5) (q := fullShare)
    (Finset.Ico 0 32) slotOf fs (fs 0) fun j hj j' hj' h => slots_disjoint h
  refine BIBase.Entails.trans h ?_
  iintro ⟨%g, -, H⟩
  iexists g
  iapply (Entails.of_eq (congrArg (fun S => (((c : Thread nD τ).loc cc0_scratch5) ↦[S]{fullShare} g : sProp 𝕄)) (slots_cover (K := id) fun t ht => ⟨t, ht, rfl⟩)))
  iexact H

theorem red_cut (f : FVec F S32x1024 .bf16) : (pt c cc0_scratch6 f : sProp 𝕄)
    ⊣⊢ iprop(redPts c (Transfers.shareDrop fullShare 32) f ∗ redPts c (Transfers.shareTokN fullShare 0) f ∗ bigSep (Finset.Ico 1 32) fun j => redPts c (Transfers.shareTokN fullShare j) f) := by
  have h := Transfers.pointsTo_toks_range (Val := Elt F) (Ix := Unit) (Name := ℕ) (U := UU) (Lvl := ℕ) (ℓ := (c : Thread nD τ).loc cc0_scratch6) (S := Finset.univ) (f := f) fullShare 32
  rw [Finset.range_eq_Ico, bigSep_Ico_succ_bot (a := 0) (b := 32) (by decide)] at h
  exact h

/-! ## What a device starts with -/

abbrev run31 (f : ℕ → sProp 𝕄) : sProp 𝕄 := bigSep (Finset.Ico 1 32) f
/-- Its positions at semaphores `cell 1 … cell 31`, and credits there. -/
abbrev ats (cell : ℕ → SemLoc sig) (R : ℕ) : sProp 𝕄 := run31 fun j => atPos ER ((c : Thread nD τ), cell j) R ∅ 0
abbrev crs (cell : ℕ → SemLoc sig) : sProp 𝕄 := run31 fun j => cred (tallyAt ((c : Thread nD τ), cell j) () N)
abbrev barW : sProp 𝕄 := iprop(cred (tallyAt (barCell c) () 31) ∗ atPos ER (barCell c) 0 ∅ 0)
/-- The tokens for the duties of the transfers of each phase. -/
abbrev sT : sProp 𝕄 := run31 fun j => iprop(dutyTok ER ((c : Thread nD τ), sS j) 0 0 ∗ dutyTok ER ((peer c j : Thread nD τ), sR j) 0 0)
abbrev gT : sProp 𝕄 := run31 fun j => iprop(dutyTok ER ((c : Thread nD τ), sS j) 1 0 ∗ dutyTok ER ((peer c j : Thread nD τ), sG j) 0 0)

/-- The buffers besides the 16-bit ones, the partial product first. -/
def mid (X : Dev nD → Vec F S2x512x1024 .f32) (WQ WK WV WO : Dev nD → Vec F S1024x1024 .f32) (q k v pa : FVec F S1024x1024 .f32) : sProp 𝕄 :=
  iprop(pt c cc0_scratch3 pa ∗ pt c cc0_stg0_0 (X c) ∗ pt c cc0_stg1_0 (WQ c) ∗ pt c cc0_stg2_0 (WK c) ∗ pt c cc0_stg3_0 (WV c) ∗ pt c cc0_stg4_0 (WO c)
    ∗ pt c cc0_scratch0 q ∗ pt c cc0_scratch1 k ∗ pt c cc0_scratch2 v)
/-- Kept from the barrier: the own rows of the 16-bit product, the position, and the others' rows of the 16-bit result. -/
def kept : sProp 𝕄 := iprop(p16Rows c (peer c 0).val (P16 c) ∗ atPos ER (barCell c) 1 ∅ 0)
def dest : sProp 𝕄 := run31 fun j => iprop(∃ f, o16Rows (F := F) (peer c j) c.val f)
/-- What the waits of a phase yielded. -/
def got (cell : ℕ → SemLoc sig) (R : ℕ) (Pay : ℕ → sProp 𝕄) : sProp 𝕄 :=
  run31 fun j => iprop(atPos ER ((c : Thread nD τ), cell j) R ∅ 0 ∗ reached ER ((c : Thread nD τ), cell j) R ∗ Pay j)

section Steps
variable {X : Dev nD → Vec F S2x512x1024 .f32} {WQ WK WV WO : Dev nD → Vec F S1024x1024 .f32} {q k v pa : FVec F S1024x1024 .f32}

theorem t_bar {R M : sProp 𝕄} : iprop(stB P16 RED K c 32 ∗ M ∗ barW c ∗ R)
    ⊢ iprop((records P16 RED K ∗ owe c (owR c 1 + owG c 1) ∗ cred (tallyAt (barCell c) () 31) ∗ atPos ER (barCell c) 0 ∅ 0) ∗ records P16 RED K ∗ M ∗ R) := by
  unfold stB
  rw [owB_end, zero_add]
  iintro ⟨⟨#HR, HO, -⟩, HM, ⟨Hc, Ha⟩, HRR⟩
  isplitl [HO Hc Ha]
  · isplitr; · iexact HR
    isplitl [HO]; · iexact HO
    isplitl [Hc]; · iexact Hc
    iexact Ha
  isplitr; · iexact HR
  isplitl [HM]; · iexact HM
  iexact HRR

theorem t_p {R : sProp 𝕄} : iprop((owe c (owR c 1 + owG c 1) ∗ atPos ER (barCell c) 1 ∅ 0 ∗ bigSep (Finset.Ico 1 32) fun j => barPay c j)
      ∗ records P16 RED K ∗ mem X WQ WK WV WO c q k v pa (P16 c) ∗ sT c ∗ R)
    ⊢ iprop(stP P16 RED K c 1 ∗ mid c X WQ WK WV WO q k v pa ∗ (kept P16 c ∗ dest c) ∗ R) := by
  unfold stP mem mid kept dest barPay
  rw [p16_cut, bigSep_Ico_succ_bot (a := 0) (b := 32) (by decide), bigSep_sep', show Finset.Ico 1 1 = ∅ from rfl, bigSep_empty]
  simp only [bigSep_sep']
  iintro ⟨⟨HO, Ha, Hg, Hd⟩, HR, ⟨Hx, Hwq, Hwk, Hwv, Hwo, Hq, Hk, Hv, Hpa, Hp0, Hp⟩, ⟨Ht1, Ht2⟩, HRR⟩
  isplitl [HO HR Hg Hp Ht1 Ht2]
  · isplitl [HR]; · iexact HR
    isplitl [HO]; · iexact HO
    isplitl [Hg Hp Ht1 Ht2]
    · isplitl [Ht1]; · iexact Ht1
      isplitl [Ht2]; · iexact Ht2
      isplitl [Hp]; · iexact Hp
      iexact Hg
    iempintro
  isplitl [Hx Hwq Hwk Hwv Hwo Hq Hk Hv Hpa]
  · isplitl [Hpa]; · iexact Hpa
    isplitl [Hx]; · iexact Hx
    isplitl [Hwq]; · iexact Hwq
    isplitl [Hwk]; · iexact Hwk
    isplitl [Hwv]; · iexact Hwv
    isplitl [Hwo]; · iexact Hwo
    isplitl [Hq]; · iexact Hq
    isplitl [Hk]; · iexact Hk
    iexact Hv
  isplitl [Ha Hp0 Hd]
  · isplitl [Hp0 Ha]
    · isplitl [Hp0]; · iexact Hp0
      iexact Ha
    iexact Hd
  iexact HRR

theorem t_r {R M D : sProp 𝕄} : iprop(M ∗ stP P16 RED K c 32 ∗ D ∗ (crs c sR ∗ ats c sR 0) ∗ R)
    ⊢ iprop(stW P16 RED K c sR 0 (payR P16 c) (owG c 1) 1 ∗ (M ∗ D ∗ crs c sS) ∗ R) := by
  unfold stP stW
  rw [owR_end, zero_add, bigSep_sep' _ (fun j => cred (tallyAt ((c : Thread nD τ), sR j) () N)), show Finset.Ico 1 1 = ∅ from rfl, bigSep_empty]
  iintro ⟨HM, ⟨HR, HO, -, Hc⟩, HD, ⟨Hcr, Har⟩, HRR⟩
  isplitl [HR HO Hcr Har]
  · isplitl [HR]; · iexact HR
    isplitl [HO]; · iexact HO
    isplitl [Hcr Har]
    · isplitl [Hcr]; · iexact Hcr
      iexact Har
    iempintro
  isplitl [HM HD Hc]
  · isplitl [HM]; · iexact HM
    isplitl [HD]; · iexact HD
    iexact Hc
  iexact HRR

/-- Bring the third part to the front. -/
theorem swap3 {R A B C W : sProp 𝕄} (h : iprop(C ∗ A ∗ B ∗ R) ⊢ W) : iprop(A ∗ B ∗ C ∗ R) ⊢ W := by
  iintro ⟨HA, HB, HC, HRR⟩
  iapply h
  isplitl [HC]; · iexact HC
  isplitl [HA]; · iexact HA
  isplitl [HB]; · iexact HB
  iexact HRR

theorem t_s0 {R M D E : sProp 𝕄} : iprop(E ∗ stW P16 RED K c sR 0 (payR P16 c) (owG c 1) 32 ∗ (M ∗ D ∗ crs c sS) ∗ ats c sS 0 ∗ R)
    ⊢ iprop(stW P16 RED K c sS 0 (payS0 P16 c) (owG c 1) 1 ∗ (E ∗ got c sR 1 (payR P16 c) ∗ M ∗ D) ∗ R) := by
  unfold stW got
  rw [bigSep_sep' _ (fun j => cred (tallyAt ((c : Thread nD τ), sS j) () N)), show Finset.Ico 1 1 = ∅ from rfl, bigSep_empty]
  iintro ⟨HE, ⟨HR, HO, -, Hgot⟩, ⟨HM, HD, Hc⟩, Ha, HRR⟩
  isplitl [HR HO Hc Ha]
  · isplitl [HR]; · iexact HR
    isplitl [HO]; · iexact HO
    isplitl [Hc Ha]
    · isplitl [Hc]; · iexact Hc
      iexact Ha
    iempintro
  isplitl [HE Hgot HM HD]
  · isplitl [HE]; · iexact HE
    isplitl [Hgot]; · iexact Hgot
    isplitl [HM]; · iexact HM
    iexact HD
  iexact HRR

/-- What is held while the reduced rows travel. -/
def held (M : sProp 𝕄) : sProp 𝕄 :=
  iprop((redPts c (Transfers.shareDrop fullShare 32) (RED c) ∗ redPts c (Transfers.shareTokN fullShare 0) (RED c)) ∗ (run31 fun j => payS0 P16 c j)
    ∗ got c sR 1 (payR P16 c) ∗ M ∗ kept P16 c)

theorem t_q {R M : sProp 𝕄} : iprop(stW P16 RED K c sS 0 (payS0 P16 c) (owG c 1) 32
      ∗ (pt c cc0_scratch6 (RED c) ∗ got c sR 1 (payR P16 c) ∗ M ∗ (kept P16 c ∗ dest c)) ∗ gT c ∗ R)
    ⊢ iprop(stQ P16 RED K c 1 ∗ (held P16 RED c M ∗ ats c sS 1) ∗ R) := by
  have hred := (red_cut c (RED c)).1
  unfold stW stQ held dest
  simp only [bigSep_sep']
  rw [show Finset.Ico 1 1 = ∅ from rfl, bigSep_empty]
  iintro ⟨⟨HR, HO, -, Ha, Hre, Hp⟩, ⟨Hred, Hgot, HM, Hk, Hd⟩, ⟨Ht1, Ht2⟩, HRR⟩
  ihave ⟨Hr1, Hr2, Hr3⟩ := hred $$ Hred
  isplitl [HR HO Hre Ht1 Ht2 Hd Hr3]
  · isplitl [HR]; · iexact HR
    isplitl [HO]; · iexact HO
    isplitl [Hre Ht1 Ht2 Hd Hr3]
    · isplitl [Ht1]; · iexact Ht1
      isplitl [Hre]; · iexact Hre
      isplitl [Ht2]; · iexact Ht2
      isplitl [Hr3]; · iexact Hr3
      iexact Hd
    iempintro
  isplitl [Ha Hp Hgot HM Hk Hr1 Hr2]
  · isplitl [Hp Hgot HM Hk Hr1 Hr2]
    · isplitl [Hr1 Hr2]
      · isplitl [Hr1]; · iexact Hr1
        iexact Hr2
      isplitl [Hp]; · iexact Hp
      isplitl [Hgot]; · iexact Hgot
      isplitl [HM]; · iexact HM
      iexact Hk
    iexact Ha
  iexact HRR

theorem t_g {R E H : sProp 𝕄} : iprop(E ∗ stQ P16 RED K c 32 ∗ H ∗ (crs c sG ∗ ats c sG 0) ∗ R)
    ⊢ iprop(stW P16 RED K c sG 0 (payG RED c) 0 1 ∗ E ∗ (H ∗ crs c sS) ∗ R) := by
  unfold stQ stW
  rw [owG_end, bigSep_sep' _ (fun j => cred (tallyAt ((c : Thread nD τ), sG j) () N)), show Finset.Ico 1 1 = ∅ from rfl, bigSep_empty]
  iintro ⟨HE, ⟨HR, HO, -, Hc⟩, HH, ⟨Hcr, Har⟩, HRR⟩
  isplitl [HR HO Hcr Har]
  · isplitl [HR]; · iexact HR
    isplitl [HO]; · iexact HO
    isplitl [Hcr Har]
    · isplitl [Hcr]; · iexact Hcr
      iexact Har
    iempintro
  isplitl [HE]; · iexact HE
  isplitl [HH Hc]
  · isplitl [HH]; · iexact HH
    iexact Hc
  iexact HRR

theorem t_s1 {R E H : sProp 𝕄} : iprop(stW P16 RED K c sG 0 (payG RED c) 0 32 ∗ E ∗ ((H ∗ ats c sS 1) ∗ crs c sS) ∗ R)
    ⊢ iprop(stW P16 RED K c sS 1 (payS1 RED c) 0 1 ∗ (E ∗ H ∗ got c sG 1 (payG RED c)) ∗ R) := by
  unfold stW got
  rw [bigSep_sep' _ (fun j => cred (tallyAt ((c : Thread nD τ), sS j) () N)), show Finset.Ico 1 1 = ∅ from rfl, bigSep_empty]
  iintro ⟨⟨HR, HO, -, Hgot⟩, HE, ⟨⟨HH, Ha⟩, Hc⟩, HRR⟩
  isplitl [HR HO Ha Hc]
  · isplitl [HR]; · iexact HR
    isplitl [HO]; · iexact HO
    isplitl [Ha Hc]
    · isplitl [Hc]; · iexact Hc
      iexact Ha
    iempintro
  isplitl [HE HH Hgot]
  · isplitl [HE]; · iexact HE
    isplitl [HH]; · iexact HH
    iexact Hgot
  iexact HRR
end Steps

/-- The pieces of the gather buffer and of the 16-bit result that never travel. -/
def own : sProp 𝕄 := iprop((∃ f, gatSlot (F := F) c 0 f) ∗ ∃ f, o16Rows (F := F) c (peer c 32).val f)

/-- Every position at its last round. -/
def done : sProp 𝕄 := iprop(atPos ER (barCell c) 1 ∅ 0 ∗ ats c sS 2 ∗ ats c sR 1 ∗ ats c sG 1)

theorem t_end {M E I : sProp 𝕄} : iprop(stW P16 RED K c sS 1 (payS1 RED c) 0 32 ∗ (E ∗ held P16 RED c M ∗ got c sG 1 (payG RED c)) ∗ own c ∗ I)
    ⊢ iprop(records P16 RED K ∗ owe c 0 ∗ E ∗ M ∗ done c ∗ pt c cc0_scratch4 (P16 c) ∗ (∃ f, pt c cc0_scratch5 f) ∗ pt c cc0_scratch6 (RED c)
      ∗ (∃ f, pt c cc0_scratch7 f) ∗ I) := by
  have hred := (red_cut c (RED c)).2
  have hp := Entails.of_eq (p16_cut c (P16 c)).symm
  rw [bigSep_Ico_succ_bot (a := 0) (b := 32) (by decide)] at hp
  have hg (f : S32x32x1024.Idx → Elt F .bf16) : iprop(gatSlot c 0 f ∗ run31 fun j => payR P16 c j) ⊢ (iprop(∃ f, pt c cc0_scratch5 f) : sProp 𝕄) := by
    refine BIBase.Entails.trans ?_ (gat_join c fun j => if j = 0 then f else gatOf P16 c)
    rw [bigSep_Ico_succ_bot (a := 0) (b := 32) (by decide)]
    exact Entails.of_eq (congrArg₂ _ rfl (bigSep_congr fun j hj => by have := Finset.mem_Ico.mp hj; rw [if_neg (by omega)]; rfl))
  have ho (f : FVec F S1024x1024 .bf16) : iprop(o16Rows c (peer c 32).val f ∗ run31 fun j => payG RED c j) ⊢ (iprop(∃ f, pt c cc0_scratch7 f) : sProp 𝕄) := by
    refine BIBase.Entails.trans ?_ (o16_join c fun j => if j = 0 then f else o16Of RED)
    rw [bigSep_Ico_succ_bot (a := 0) (b := 32) (by decide)]
    exact Entails.of_eq (congrArg₂ _ rfl (bigSep_congr fun j hj => by have := Finset.mem_Ico.mp hj; rw [if_neg (by omega)]; rfl))
  unfold stW got held kept own done got
  simp only [bigSep_sep']
  iintro ⟨⟨HR, HO, -, Ha, -, Hs⟩, ⟨HE, ⟨⟨Hr1, Hr2⟩, Hp, ⟨Har, -, Hg⟩, HM, Hp0, Hab⟩, ⟨Hag, -, Hoo⟩⟩, ⟨⟨%f1, Hg0⟩, ⟨%f2, Ho0⟩⟩, HI⟩
  isplitl [HR]; · iexact HR
  isplitl [HO]; · iexact HO
  isplitl [HE]; · iexact HE
  isplitl [HM]; · iexact HM
  isplitl [Ha Har Hab Hag]
  · isplitl [Hab]; · iexact Hab
    isplitl [Ha]; · iexact Ha
    isplitl [Har]; · iexact Har
    iexact Hag
  isplitl [Hp Hp0]
  · iapply hp
    isplitl [Hp0]; · iexact Hp0
    iexact Hp
  isplitl [Hg Hg0]
  · iapply (hg f1)
    isplitl [Hg0]; · iexact Hg0
    iexact Hg
  isplitl [Hs Hr1 Hr2]
  · iapply hred
    isplitl [Hr1]; · iexact Hr1
    isplitl [Hr2]; · iexact Hr2
    iexact Hs
  isplitr [HI]
  · iapply (ho f2)
    isplitl [Ho0]; · iexact Ho0
    iexact Hoo
  iexact HI

end Cert.Attn
end
-- ==== Proof.Body.lean ====
/-
# The kernel's body

The body, run from the state a device starts in: the projections and the heads, the partial product, the barrier, the
reduce-scatter, the sum, the all-gather. Each step is one lemma about its kind of operation, at the state it meets.
-/
module

public import proofs.«01_k».proof.Proof.Phases

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A body at the buffers and semaphores the launch gives it. -/
abbrev atRefs {β : Type 1} (f : (a0 : Memref sig .tc .vmem S2x512x1024 .f32) → a0.IsWhole → (a1 : Memref sig .tc .vmem S1024x1024 .f32) → a1.IsWhole
    → (a2 : Memref sig .tc .vmem S1024x1024 .f32) → a2.IsWhole → (a3 : Memref sig .tc .vmem S1024x1024 .f32) → a3.IsWhole
    → (a4 : Memref sig .tc .vmem S1024x1024 .f32) → a4.IsWhole → (a5 : Memref sig .tc .vmem S1024x1024 .f32) → a5.IsWhole
    → (a6 : Memref sig .tc .vmem S1024x1024 .f32) → a6.IsWhole → (a7 : Memref sig .tc .vmem S1024x1024 .f32) → a7.IsWhole
    → (a8 : Memref sig .tc .vmem S1024x1024 .f32) → a8.IsWhole → (a9 : Memref sig .tc .vmem S1024x1024 .f32) → a9.IsWhole
    → (a10 : Memref sig .tc .vmem S1024x1024 .bf16) → a10.IsWhole → (a11 : Memref sig .tc .vmem S32x32x1024 .bf16) → a11.IsWhole
    → (a12 : Memref sig .tc .vmem S32x1024 .bf16) → a12.IsWhole → (a13 : Memref sig .tc .vmem S1024x1024 .bf16) → a13.IsWhole
    → DmaSems sig S32 → DmaSems sig S32 → DmaSems sig S32 → β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) cc0_scratch8 cc0_scratch9 cc0_scratch10

variable (X : Dev nD → Vec F S2x512x1024 .f32) (WQ WK WV WO : Dev nD → Vec F S1024x1024 .f32) (K : Dev nD × Fin 97 → ℕ) (c : Dev nD)

/-- What the body leaves: nothing owed, the whole result, every buffer, every semaphore past its last round, and what it never touched. -/
def finish (I : sProp 𝕄) : sProp 𝕄 :=
  iprop(records (part16 X WQ WK WV WO) (redOf X WQ WK WV WO) K ∗ owe c 0 ∗ outAt c (outOf X WQ WK WV WO c) 32
    ∗ mid c X WQ WK WV WO (qAt X WQ WK WV c 16) (kOf X WK c) (vOf X WV c) (partOf X WQ WK WV WO c) ∗ done c
    ∗ pt c cc0_scratch4 (part16 X WQ WK WV WO c) ∗ (∃ f, pt c cc0_scratch5 f) ∗ pt c cc0_scratch6 (redOf X WQ WK WV WO c) ∗ (∃ f, pt c cc0_scratch7 f) ∗ I)

set_option maxHeartbeats 20000000 in
set_option maxRecDepth 100000 in
theorem body_run {q k v pa : FVec F S1024x1024 .f32} {p : FVec F S1024x1024 .bf16} {r : FVec F S32x1024 .bf16} {o : FVec F S1024x1024 .f32} {I : sProp 𝕄} {Q : PUnit → sProp 𝕄}
    (hQ : finish X WQ WK WV WO K c I ⊢ iprop(|={Set.univ}=> Q ⟨⟩)) :
    iprop(mem X WQ WK WV WO c q k v pa p ∗ stB (part16 X WQ WK WV WO) (redOf X WQ WK WV WO) K c 1 ∗ barW c ∗ sT c ∗ (crs c sR ∗ ats c sR 0)
        ∗ pt c cc0_scratch6 r ∗ ats c sS 0 ∗ gT c ∗ pt c cc0_stg5_0 o ∗ (crs c sG ∗ ats c sG 0) ∗ own c ∗ I)
      ⊢ run c (atRefs (cc0_body (F := F))) Q := by
  rw [cc0_body_eq_skeleton]
  unfold atRefs cc0_body_skel
  simp only [k0_part87_eq_skeleton, k0_part88_eq_skeleton]
  unfold k0_part87_skel k0_part88_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton]
  refine run_dev c ?_
  refine frame_step (ld c (by exact get_x X WQ WK WV WO c _ _ _ _ _) (Finset.subset_univ _) (by exact Memref.readAt_unit_zero (Elt F) cc0_stg0_0 zero3 _ _)) ?_
  refine frame_step (ld c (by exact get_wq X WQ WK WV WO c _ _ _ _ _) (Finset.subset_univ _) (by exact Memref.readAt_unit_zero (Elt F) cc0_stg1_0 zero2 _ _)) ?_
  refine frame_step (ldx c (by exact has_same (mem_q X WQ WK WV WO c _ _ _ _ _) _) (Finset.subset_univ _)) ?_
  refine frame_step (st c (g := qAt X WQ WK WV c 0) (by exact has_same (mem_q X WQ WK WV WO c _ _ _ _ _) _) (Finset.subset_univ _)
    (by rw [qAt_zero]; exact Memref.write_access_unit_zero_univ (Elt F) cc0_scratch0 zero2 _ _ _)) ?_
  refine frame_step (ld c (by exact get_wk X WQ WK WV WO c _ _ _ _ _) (Finset.subset_univ _) (by exact Memref.readAt_unit_zero (Elt F) cc0_stg2_0 zero2 _ _)) ?_
  refine frame_step (ldx c (by exact has_same (mem_k X WQ WK WV WO c _ _ _ _ _) _) (Finset.subset_univ _)) ?_
  refine frame_step (st c (g := kOf X WK c) (by exact has_same (mem_k X WQ WK WV WO c _ _ _ _ _) _) (Finset.subset_univ _)
    (by exact Memref.write_access_unit_zero_univ (Elt F) cc0_scratch1 zero2 _ _ _)) ?_
  refine frame_step (ld c (by exact get_wv X WQ WK WV WO c _ _ _ _ _) (Finset.subset_univ _) (by exact Memref.readAt_unit_zero (Elt F) cc0_stg3_0 zero2 _ _)) ?_
  refine frame_step (ldx c (by exact has_same (mem_v X WQ WK WV WO c _ _ _ _ _) _) (Finset.subset_univ _)) ?_
  refine frame_step (st c (g := vOf X WV c) (by exact has_same (mem_v X WQ WK WV WO c _ _ _ _ _) _) (Finset.subset_univ _)
    (by exact Memref.write_access_unit_zero_univ (Elt F) cc0_scratch2 zero2 _ _ _)) ?_
  iterate 16
    refine frame_step (ld_q X WQ WK WV WO c (by decide) (by rfl)) ?_
    refine frame_step (ld_k X WQ WK WV WO c (by decide) (by rfl)) ?_
    refine frame_step (ld_v X WQ WK WV WO c (by decide) (by rfl)) ?_
    refine frame_step (ld_q X WQ WK WV WO c (by decide) (by rfl)) ?_
    refine frame_step (st_q X WQ WK WV WO c (by decide) (by rfl) (by rfl)) ?_
  -- the partial product
  refine frame_step (ld c (v := ctx X WQ WK WV c) (by exact get_q X WQ WK WV WO c _ _ _ _ _) (Finset.subset_univ _)
    (by rw [qAt_end]; exact Memref.readAt_unit_zero (Elt F) cc0_scratch0 zero2 _ _)) ?_
  refine frame_step (ld c (by exact get_wo X WQ WK WV WO c _ _ _ _ _) (Finset.subset_univ _) (by exact Memref.readAt_unit_zero (Elt F) cc0_stg4_0 zero2 _ _)) ?_
  refine frame_step (ldx c (by exact get_pa X WQ WK WV WO c _ _ _ _ _) (Finset.subset_univ _)) ?_
  refine frame_step (st c (g := partOf X WQ WK WV WO c) (by exact put_pa X WQ WK WV WO c _ _ _ _ _ _) (Finset.subset_univ _)
    (by exact Memref.write_access_unit_zero_univ (Elt F) cc0_scratch3 zero2 _ _ _)) ?_
  refine frame_step (ld c (by exact get_pa X WQ WK WV WO c _ _ _ _ _) (Finset.subset_univ _) (by exact Memref.readAt_unit_zero (Elt F) cc0_scratch3 zero2 _ _)) ?_
  refine frame_step (ldx c (by exact get_p X WQ WK WV WO c _ _ _ _ _) (Finset.subset_univ _)) ?_
  refine frame_step (st c (g := part16 X WQ WK WV WO c) (by exact put_p X WQ WK WV WO c _ _ _ _ _ _) (Finset.subset_univ _)
    (by exact Memref.write_access_unit_zero_univ (Elt F) cc0_scratch4 zero2 _ _ _)) ?_
  -- the barrier
  refine swap ?_
  iterate 31
    refine frame_step (step_signal (part16 X WQ WK WV WO) (redOf X WQ WK WV WO) K c (by decide) (by decide) (dev_at c (by decide))) ?_
  refine BIBase.Entails.trans (t_bar (part16 X WQ WK WV WO) (redOf X WQ WK WV WO) K c) ?_
  refine frame_step (step_barrier (part16 X WQ WK WV WO) (redOf X WQ WK WV WO) K c (above_add (above_owR (by decide) c 1) (above_owG (by decide) c 1 (by decide)))) ?_
  refine BIBase.Entails.trans (t_p (part16 X WQ WK WV WO) (redOf X WQ WK WV WO) K c) ?_
  -- the reduce-scatter
  iterate 31
    refine frame_step (step_send (part16 X WQ WK WV WO) (redOf X WQ WK WV WO) K c (by decide) (by decide) (dev_at c (by decide)) (by exact off1_at c (by decide) (by decide)) (by rfl) (by rfl) (by rfl)) ?_
  refine swap ?_
  refine frame_step (ld c (v := chunk (partOf X WQ WK WV WO c) c.val) (by unfold mid; exact has_same (has_here _ _ _) _) (Finset.subset_univ _)
    (by exact read_chunk _ (dlt c) (k0_off2_eq c) _)) ?_
  refine BIBase.Entails.trans (t_r (part16 X WQ WK WV WO) (redOf X WQ WK WV WO) K c) ?_
  iterate 31
    refine frame_step (wait_recv (part16 X WQ WK WV WO) (redOf X WQ WK WV WO) K c (by decide) (by decide) (by rfl) (by rfl)) ?_
    refine frame_step (ld_slot (part16 X WQ WK WV WO) (redOf X WQ WK WV WO) K c (by decide) (by decide) (by rfl)) ?_
  refine swap3 ?_
  refine frame_step (ldx c (by exact self) (Finset.subset_univ _)) ?_
  refine frame_step (st c (g := redOf X WQ WK WV WO c) (by exact self) (Finset.subset_univ _)
    (by exact Memref.write_access_unit_zero_univ (Elt F) cc0_scratch6 zero2 _ _ _)) ?_
  refine BIBase.Entails.trans (t_s0 (part16 X WQ WK WV WO) (redOf X WQ WK WV WO) K c) ?_
  iterate 31
    refine frame_step (wait_send0 (part16 X WQ WK WV WO) (redOf X WQ WK WV WO) K c (by decide) (by decide) (by rfl) (by rfl)) ?_
  refine BIBase.Entails.trans (t_q (part16 X WQ WK WV WO) (redOf X WQ WK WV WO) K c) ?_
  -- the all-gather
  iterate 31
    refine frame_step (step_gather (part16 X WQ WK WV WO) (redOf X WQ WK WV WO) K c (by decide) (by decide) (dev_at c (by decide)) (by exact k0_off3_eq c) (by rfl) (by rfl)) ?_
  refine swap3 ?_
  refine frame_step (ldx c (by exact self) (Finset.subset_univ _)) ?_
  refine frame_step (st_own c (g := outOf X WQ WK WV WO c) (by exact k0_off2_eq c) (by exact chunk_own c X WQ WK WV WO)) ?_
  refine BIBase.Entails.trans (t_g (part16 X WQ WK WV WO) (redOf X WQ WK WV WO) K c) ?_
  iterate 31
    refine frame_step (wait_gath (part16 X WQ WK WV WO) (redOf X WQ WK WV WO) K c (by decide) (by decide) (by rfl) (by rfl)) ?_
    refine frame_step (ld_o16 (part16 X WQ WK WV WO) (redOf X WQ WK WV WO) K c (by decide) (by decide) (by exact off5_at c (by decide) (by decide))) ?_
    refine swap ?_
    refine frame_step (ldx_out c (by exact fun _ _ => rfl)) ?_
    refine frame_step (st_out c (by decide) (by exact off5_at c (by decide) (by decide)) (by exact chunk_back c X WQ WK WV WO (by decide) (by decide))) ?_
    refine swap ?_
  refine BIBase.Entails.trans (t_s1 (part16 X WQ WK WV WO) (redOf X WQ WK WV WO) K c) ?_
  iterate 31
    refine frame_step (wait_send1 (part16 X WQ WK WV WO) (redOf X WQ WK WV WO) K c (by decide) (by decide) (by rfl) (by rfl)) ?_
  refine BIBase.Entails.trans (t_end (part16 X WQ WK WV WO) (redOf X WQ WK WV WO) K c) ?_
  exact hQ

end Cert.Attn
end
-- ==== Proof.Cells.lean ====
/-
# The semaphores at launch and at the end

The 97 cells of a device listed by array, the tokens minted for them and how they are dealt, the credits, and the closing of
every cell once the body is done.
-/
module

public import proofs.«01_k».proof.Proof.Body
public import Idealize.ShloMosaic.Lib.Rounds.Family

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Runs over numbers -/

theorem bigSep_fin (n : ℕ) (Ψ : ℕ → sProp 𝕄) : bigSep (Finset.univ : Finset (Fin n)) (fun i => Ψ i.val) = bigSep (Finset.Ico 0 n) Ψ := by
  have h : Finset.Ico 0 n = (Finset.univ : Finset (Fin n)).map Fin.valEmbedding := by
    ext a; simp only [Finset.mem_Ico, Finset.mem_map, Finset.mem_univ, true_and, Nat.zero_le]
    exact ⟨fun h => ⟨⟨a, h⟩, rfl⟩, fun ⟨i, hi⟩ => hi ▸ i.isLt⟩
  rw [h, bigSep_map]; rfl

theorem bigSep_split {a b e : ℕ} (h : a ≤ b) (h' : b ≤ e) (Ψ : ℕ → sProp 𝕄) :
    bigSep (Finset.Ico a e) Ψ = iprop(bigSep (Finset.Ico a b) Ψ ∗ bigSep (Finset.Ico b e) Ψ) := by
  rw [← Finset.Ico_union_Ico_eq_Ico h h', bigSep_union (Finset.Ico_disjoint_Ico_consecutive a b e)]; rfl

theorem bigSep_shift (k a b : ℕ) (Ψ : ℕ → sProp 𝕄) : bigSep (Finset.Ico (k + a) (k + b)) Ψ = bigSep (Finset.Ico a b) fun j => Ψ (k + j) := by
  have h : Finset.Ico (k + a) (k + b) = (Finset.Ico a b).map (addLeftEmbedding k) := by
    ext x; simp only [Finset.mem_Ico, Finset.mem_map, addLeftEmbedding_apply]
    exact ⟨fun h => ⟨x - k, by omega, by omega⟩, fun ⟨y, hy, e⟩ => by omega⟩
  rw [h, bigSep_map]; rfl

theorem run31_fin (f : ℕ → sProp 𝕄) : run31 f = bigSep (Finset.univ : Finset (Fin 31)) fun j => f (1 + j.val) := by
  rw [bigSep_fin 31 fun n => f (1 + n)]; exact bigSep_shift 1 0 31 f

/-- A run of 31 read backwards. -/
theorem run31_rev (f : ℕ → sProp 𝕄) : run31 f = run31 fun j => f (32 - j) := by
  rw [run31_fin, run31_fin, bigSep_univ_equiv Fin.revPerm]
  refine bigSep_congr fun j _ => congrArg f ?_
  have := j.isLt
  show 1 + (Fin.rev j).val = 32 - (1 + j.val)
  rw [Fin.val_rev]; omega

/-- What every device has for each of its 31 steps is what every device has of the others' for each of its steps. -/
theorem around (g : Dev nD → ℕ → sProp 𝕄) :
    (bigSep Finset.univ fun c : Dev nD => run31 fun j => g c j) = bigSep Finset.univ fun c : Dev nD => run31 fun j => g (peer c j) j := by
  simp only [run31_fin]
  rw [bigSep_univ_comm, bigSep_univ_comm (fun (c : Dev nD) (j : Fin 31) => g (peer c (1 + j.val)) (1 + j.val))]
  exact bigSep_congr fun j _ => bigSep_univ_equiv (shift (1 + j.val) (by have := j.isLt; omega)) fun c => g c (1 + j.val)

/-! ## A device's semaphores, array by array -/

abbrev osem (i : Fin 96) : SemLoc sig := .dma (ds (6 + i.val))

def allSems (Φ : SemLoc sig → sProp 𝕄) : sProp 𝕄 :=
  iprop((Φ (sS 0) ∗ run31 fun j => Φ (sS j)) ∗ (Φ (sR 0) ∗ run31 fun j => Φ (sR j)) ∗ Φ (sG 0) ∗ run31 fun j => Φ (sG j))

theorem run96 (Φ : SemLoc sig → sProp 𝕄) : bigSep (Finset.Ico 0 96) (fun n => Φ (.dma (ds (6 + n)))) = allSems Φ := by
  have e1 := bigSep_shift (F := F) 32 0 32 fun n => Φ (.dma (ds (6 + n)))
  have e2 := bigSep_shift (F := F) 64 0 32 fun n => Φ (.dma (ds (6 + n)))
  rw [show (fun j => Φ (.dma (ds (6 + (32 + j))))) = fun j => Φ (sR j) from funext fun j => by rw [← Nat.add_assoc]] at e1
  rw [show (fun j => Φ (.dma (ds (6 + (64 + j))))) = fun j => Φ (sG j) from funext fun j => by rw [← Nat.add_assoc]] at e2
  rw [bigSep_split (a := 0) (b := 32) (e := 96) (by decide) (by decide), bigSep_split (a := 32) (b := 64) (e := 96) (by decide) (by decide)]
  rw [show (bigSep (Finset.Ico 32 64) fun n => Φ (.dma (ds (6 + n)))) = bigSep (Finset.Ico 0 32) fun j => Φ (sR j) from e1,
    show (bigSep (Finset.Ico 64 96) fun n => Φ (.dma (ds (6 + n)))) = bigSep (Finset.Ico 0 32) fun j => Φ (sG j) from e2]
  simp only [bigSep_Ico_succ_bot (a := 0) (b := 32) (by decide)]
  rfl

theorem own_split (Φ : SemLoc sig → sProp 𝕄) : (bigSep Finset.univ fun i : Fin 96 => Φ (osem i)) = allSems Φ := by
  rw [← run96]; exact bigSep_fin 96 fun n => Φ (.dma (ds (6 + n)))

theorem cell_split (Φ : SemLoc sig → sProp 𝕄) : (bigSep Finset.univ fun i : Fin 97 => Φ (csem i)) = iprop(Φ (.reg barrier0) ∗ allSems Φ) := by
  refine (bigSep_fin 97 fun n => Φ (if n = 0 then .reg barrier0 else .dma (ds (5 + n)))).trans ?_
  rw [bigSep_Ico_succ_bot (a := 0) (b := 97) (by decide), ← run96]
  refine congrArg₂ _ rfl ((bigSep_shift 1 0 96 _).trans (bigSep_congr fun n _ => ?_))
  rw [if_neg (by omega), show 5 + (1 + n) = 6 + n by omega]

/-! ## The tokens -/

/-- The duty tokens of device `c`'s own cells, and of the duties `c` pays. -/
def toks (c : Dev nD) : sProp 𝕄 :=
  iprop((run31 fun j => dutyTok ER (barCell c) 0 j) ∗ (run31 fun j => dutyTok ER ((c : Thread nD τ), sS j) 0 0) ∗ (run31 fun j => dutyTok ER ((c : Thread nD τ), sS j) 1 0)
    ∗ (run31 fun j => dutyTok ER ((c : Thread nD τ), sR j) 0 0) ∗ run31 fun j => dutyTok ER ((c : Thread nD τ), sG j) 0 0)
def payToks (c : Dev nD) : sProp 𝕄 :=
  iprop((run31 fun j => dutyTok ER (barCell (peer c j)) 0 (32 - j)) ∗ (run31 fun j => dutyTok ER ((c : Thread nD τ), sS j) 0 0) ∗ (run31 fun j => dutyTok ER ((c : Thread nD τ), sS j) 1 0)
    ∗ (run31 fun j => dutyTok ER ((peer c j : Thread nD τ), sR j) 0 0) ∗ run31 fun j => dutyTok ER ((peer c j : Thread nD τ), sG j) 0 0)

theorem toks_around : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep', bigSep_sep', bigSep_sep',
    ← around (fun c j => (dutyTok ER (barCell c) 0 (32 - j) : sProp 𝕄)), ← around (fun c j => (dutyTok ER ((c : Thread nD τ), sR j) 0 0 : sProp 𝕄)),
    ← around (fun c j => (dutyTok ER ((c : Thread nD τ), sG j) 0 0 : sProp 𝕄))]
  refine congrArg₂ _ (bigSep_congr fun c _ => run31_rev _) rfl

abbrev tokOf (x : Dev nD × Fin 5 × Fin 31) : GSem nD τ sig × ℕ × ℕ := match x.2.1 with
  | 0 => (barCell x.1, 0, 1 + x.2.2.val) | 1 => (((x.1 : Thread nD τ), sS (1 + x.2.2.val)), 0, 0) | 2 => (((x.1 : Thread nD τ), sS (1 + x.2.2.val)), 1, 0)
  | 3 => (((x.1 : Thread nD τ), sR (1 + x.2.2.val)), 0, 0) | 4 => (((x.1 : Thread nD τ), sG (1 + x.2.2.val)), 0, 0)

theorem ds_inj {q q' : ℕ} (h : q < 102) (h' : q' < 102) (e : (SemLoc.dma (ds q) : SemLoc sig) = .dma (ds q')) : q = q' := by
  have := congrArg (fun s : SemLoc sig => match s with | .reg _ => 0 | .dma s => s.val) e
  exact (ds_val h).symm.trans (this.trans (ds_val h'))

/-- Which token a duty is: its place in one list, per device. -/
def tokNo (x : GSem nD τ sig × ℕ × ℕ) : ℕ × ℕ := (x.1.1.1.val, match x.1.2 with | .reg _ => x.2.2 | .dma q => 200 + 200 * x.2.1 + q.val)
theorem tokNo_of (c : Dev nD) (t : Fin 5) (j : Fin 31) :
    tokNo (tokOf (c, t, j)) = (c.val, (match t with | 0 => 1 | 1 => 207 | 2 => 407 | 3 => 239 | 4 => 271) + j.val) := by
  have := j.isLt
  fin_cases t
  · exact congrArg (Prod.mk c.val) rfl
  all_goals
    refine congrArg (Prod.mk c.val) ?_
    simp only [tokOf, tokNo]
    first
      | (show 200 + 200 * 0 + (ds (6 + (1 + j.val))).val = 207 + j.val; rw [ds_val (by omega)]; omega)
      | (show 200 + 200 * 1 + (ds (6 + (1 + j.val))).val = 407 + j.val; rw [ds_val (by omega)]; omega)
      | (show 200 + 200 * 0 + (ds (38 + (1 + j.val))).val = 239 + j.val; rw [ds_val (by omega)]; omega)
      | (show 200 + 200 * 0 + (ds (70 + (1 + j.val))).val = 271 + j.val; rw [ds_val (by omega)]; omega)

theorem tokOf_injective : Function.Injective tokOf := by
  rintro ⟨c, t, j⟩ ⟨c', t', j'⟩ h
  have h1 := congrArg tokNo h
  rw [tokNo_of, tokNo_of] at h1
  obtain ⟨hc, h2⟩ := Prod.mk.inj h1
  have hj := j.isLt
  have hj' := j'.isLt
  have ht : t = t' := by
    revert h2
    fin_cases t <;> fin_cases t' <;> intro h2 <;> first | rfl | (exfalso; simp only at h2; omega)
  subst ht
  exact Prod.ext (Fin.ext hc) (Prod.ext rfl (Fin.ext (Nat.add_left_cancel h2)))

theorem kcell_injective : Function.Injective (kcell : Dev nD × Fin 97 → GSem nD τ sig) := by
  rintro ⟨c, k⟩ ⟨c', k'⟩ h
  have h1 : c = c' := by have := congrArg (fun g : GSem nD τ sig => g.1.1) h; exact this
  have h2 : csem k = csem k' := congrArg Prod.snd h
  have hk := k.isLt
  have hk' := k'.isLt
  refine Prod.ext h1 (Fin.ext ?_)
  show k.val = k'.val
  unfold csem at h2
  split at h2 <;> split at h2
  · omega
  · cases h2
  · cases h2
  · have := ds_inj (by omega) (by omega) h2; omega

def allCells : Finset (GSem nD τ sig) := Finset.univ.map ⟨kcell, kcell_injective⟩
def allToks : Finset (GSem nD τ sig × ℕ × ℕ) := Finset.univ.map ⟨tokOf, tokOf_injective⟩

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem allToks_eq : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  rw [bigSep_univ_prod, bigSep_fin5]
  unfold toks
  simp only [run31_fin]
  rfl

theorem allCells_eq (Φ : GSem nD τ sig → sProp 𝕄) : bigSep allCells Φ = bigSep Finset.univ fun c : Dev nD => bigSep Finset.univ fun k : Fin 97 => Φ (kcell (c, k)) := by
  unfold allCells; rw [bigSep_map, bigSep_univ_prod]; rfl

/-! ## The credits -/

theorem cred_run (g : GSem nD τ sig) (n : ℕ) : (bigSep (Finset.Ico 1 (1 + n + 1)) fun _ => cred (tallyAt g () 1)) ⊢ (cred (tallyAt g () (n + 1)) : sProp 𝕄) := by
  induction n with
  | zero => exact Entails.of_eq (bigSep_Ico_one 1 _)
  | succ n ih =>
    rw [show 1 + (n + 1) + 1 = (1 + n + 1) + 1 from rfl, bigSep_Ico_succ_top (by omega), show n + 1 + 1 = 1 + (n + 1) by omega, ← tallyAt_add]
    exact (sep_mono_right ih).trans (cred_add _ _).2

theorem creds (c : Dev nD) : (Pipeline.launchCred O₀ c : sProp 𝕄) ⊢ iprop(cred (tallyAt (barCell c) () 31) ∗ crs c sR ∗ crs c sG) := by
  have h1 (sm : SemLoc sig) (j n : ℕ) (hj : j ∈ Finset.Ico 1 32) :
      (Pipeline.launchCred (fun d => tallyAt ((peer d j : Thread nD τ), sm) () n) c : sProp 𝕄) ⊢ cred (tallyAt ((c : Thread nD τ), sm) () n) :=
    Pipeline.launchCred_tallyAt sm (peer · j) (peer · (32 - j)) (fun d => peer_back' d (by have := Finset.mem_Ico.mp hj; omega))
      (fun d => peer_back d (by have := Finset.mem_Ico.mp hj; omega)) () n c
  rw [show O₀ = fun d => owB d 1 + (fun e => owR e 1 + owG e 1) d from rfl, Pipeline.launchCred_add, Pipeline.launchCred_add (fun d => owR d 1)]
  refine sep_mono ?_ (sep_mono ?_ ?_)
  · refine BIBase.Entails.trans (Entails.of_eq (Pipeline.launchCred_sum (Finset.Ico 1 32) (fun j d => tallyAt (barCell (peer d j)) () 1) c)) ?_
    exact (bigSep_mono fun j hj => h1 _ j 1 hj).trans (cred_run (barCell c) 30)
  · refine BIBase.Entails.trans (Entails.of_eq (Pipeline.launchCred_sum (Finset.Ico 1 32) (fun j d => tallyAt ((peer d j : Thread nD τ), sR j) () N) c)) ?_
    exact bigSep_mono fun j hj => h1 _ j N hj
  · refine BIBase.Entails.trans (Entails.of_eq (Pipeline.launchCred_sum (Finset.Ico 1 32) (fun j d => tallyAt ((peer d j : Thread nD τ), sG j) () N) c)) ?_
    exact bigSep_mono fun j hj => h1 _ j N hj

/-! ## The semaphores' counters, and closing the cells -/

theorem ownSems0_eq (c : Dev nD) : (Pipeline.ownSems0 (Ix := Unit) (Name := ℕ) (U := UU) (Lvl := ℕ) (Val := Elt F) (τ := τ) osem c : sProp 𝕄)
    = allSems fun sm => semVal ((c : Thread nD τ), sm) 0 := by
  unfold Pipeline.ownSems0; exact own_split fun sm => semVal ((c : Thread nD τ), sm) 0
theorem unscopedSems0_eq (c : Dev nD) : (unscopedSems0 c : sProp 𝕄) = semVal (barCell c) 0 := by
  unfold unscopedSems0; rw [bigSep_eq_bigSepL_of_eq [SemLoc.reg barrier0] (by decide) (by decide)]; rfl

theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 97 => semVal (kcell (c, k)) 0 : sProp 𝕄) := by
  rw [ownSems0_eq, unscopedSems0_eq]; exact (cell_split fun sm => semVal ((c : Thread nD τ), sm) 0).symm

/-- The round past a semaphore's last. -/
def lastR (sm : SemLoc sig) : ℕ := match sm with
  | .reg _ => 1 | .dma q => if 7 ≤ q.val ∧ q.val < 38 then 2 else if (39 ≤ q.val ∧ q.val < 70) ∨ (71 ≤ q.val ∧ q.val < 102) then 1 else 0

theorem lastR_dma {q : ℕ} (h : q < 102) : lastR (.dma (ds q)) = if 7 ≤ q ∧ q < 38 then 2 else if (39 ≤ q ∧ q < 70) ∨ (71 ≤ q ∧ q < 102) then 1 else 0 := by
  show (if 7 ≤ (ds q).val ∧ (ds q).val < 38 then 2 else if (39 ≤ (ds q).val ∧ (ds q).val < 70) ∨ (71 ≤ (ds q).val ∧ (ds q).val < 102) then 1 else 0) = _
  rw [ds_val h]

/-- The positions of the three semaphores no transfer uses. -/
def idle (c : Dev nD) : sProp 𝕄 :=
  iprop(atPos ER ((c : Thread nD τ), sS 0) 0 ∅ 0 ∗ atPos ER ((c : Thread nD τ), sR 0) 0 ∅ 0 ∗ atPos ER ((c : Thread nD τ), sG 0) 0 ∅ 0)

theorem done_all (c : Dev nD) : iprop(done c ∗ idle c) ⊢ (bigSep Finset.univ fun k : Fin 97 => atPos ER (kcell (c, k)) (lastR (csem k)) ∅ 0 : sProp 𝕄) := by
  have e (cell : ℕ → SemLoc sig) (R : ℕ) (h : ∀ j, 1 ≤ j → j < 32 → lastR (cell j) = R) :
      (ats c cell R : sProp 𝕄) = run31 fun j => atPos ER ((c : Thread nD τ), cell j) (lastR (cell j)) ∅ 0 :=
    bigSep_congr fun j hj => by have := Finset.mem_Ico.mp hj; rw [h j this.1 this.2]
  refine BIBase.Entails.trans ?_ (Entails.of_eq (cell_split fun sm => atPos ER ((c : Thread nD τ), sm) (lastR sm) ∅ 0).symm)
  unfold done idle allSems
  beta_reduce
  rw [e sS 2 (fun j h1 h2 => by rw [lastR_dma (by omega), if_pos (by omega)]),
    e sR 1 (fun j h1 h2 => by rw [lastR_dma (by omega), if_neg (by omega), if_pos (by omega)]),
    e sG 1 (fun j h1 h2 => by rw [lastR_dma (by omega), if_neg (by omega), if_pos (by omega)]),
    show lastR (.reg barrier0) = 1 from rfl, lastR_dma (q := 6 + 0) (by omega), lastR_dma (q := 38 + 0) (by omega), lastR_dma (q := 70 + 0) (by omega)]
  iintro ⟨⟨Hb, HS, HR, HG⟩, ⟨hS, hR, hG⟩⟩
  isplitl [Hb]; · iexact Hb
  isplitl [HS hS]
  · isplitl [hS]; · iexact hS
    iexact HS
  isplitl [HR hR]
  · isplitl [hR]; · iexact hR
    iexact HR
  isplitl [hG]; · iexact hG
  iexact HG

section Close
variable (P16 : Dev nD → S1024x1024.Idx → Elt F .bf16) (RED : Dev nD → S32x1024.Idx → Elt F .bf16) (K : Dev nD × Fin 97 → ℕ)

theorem close_all (c : Dev nD) : iprop(records P16 RED K ∗ done c ∗ idle c)
    ⊢ (|={Set.univ}=> iprop(unscopedSems0 c ∗ Pipeline.ownSems0 (Ix := Unit) (Name := ℕ) (U := UU) (Lvl := ℕ) (Val := Elt F) (τ := τ) osem c) : sProp 𝕄) := by
  rw [sems0_eq]
  refine BIBase.Entails.trans ?_ (Rounds.cells_close ER (sched P16 RED) Finset.univ (fun k : Fin 97 => kcell (c, k)) (fun k => K (c, k))
    (fun _ _ => Set.mem_univ _) (fun _ _ h => h) (fun k => lastR (csem k)) (fun k _ => duties_end P16 RED c (csem k) _ ?_))
  · refine BIBase.Entails.trans (sep_mono_right (done_all c)) ?_
    exact bigSep_with_persistent fun k _ => sep_mono_left (inv_at P16 RED K (c, k))
  · rcases csem k with s | q
    · exact Nat.le_refl 1
    · constructor <;> intro h <;> simp only [lastR]
      · rw [if_pos h]
      · split
        · omega
        · exact Nat.le_refl 1
end Close

end Cert.Attn
end
-- ==== Proof.Point.lean ====
/-
# The launch

What every device starts from, the body's obligation, and the run of the whole program: it ends, with the result of the kernel in
every device's result array, the arguments unchanged and every semaphore at zero.
-/
module

public import proofs.«01_k».proof.Proof.Cells
public import proofs.«01_k».proof.Proof.Gen.KernelIdeal.Frame

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The arguments as staged, and what travels -/

def aX (c : Dev nD) : Vec F S2x512x1024 .f32 := iblk m c 0 t0_0
def aQ (c : Dev nD) : Vec F S1024x1024 .f32 := iblk m c 1 t0_0
def aK (c : Dev nD) : Vec F S1024x1024 .f32 := iblk m c 2 t0_0
def aV (c : Dev nD) : Vec F S1024x1024 .f32 := iblk m c 3 t0_0
def aO (c : Dev nD) : Vec F S1024x1024 .f32 := iblk m c 4 t0_0

abbrev P16 : Dev nD → S1024x1024.Idx → Elt F .bf16 := part16 (aX m) (aQ m) (aK m) (aV m) (aO m)
abbrev RED : Dev nD → S32x1024.Idx → Elt F .bf16 := redOf (aX m) (aQ m) (aK m) (aV m) (aO m)
abbrev res (c : Dev nD) : FVec F S1024x1024 .f32 := outOf (aX m) (aQ m) (aK m) (aV m) (aO m) c

/-! ## A device's start and end -/

/-- The scratch buffers. -/
abbrev some0 (c : Dev nD) (b : Ref sig .tc) : sProp 𝕄 := iprop(∃ f, pt c b f)
def scratch (c : Dev nD) : sProp 𝕄 :=
  iprop(some0 c cc0_scratch0 ∗ some0 c cc0_scratch1 ∗ some0 c cc0_scratch2 ∗ some0 c cc0_scratch3 ∗ some0 c cc0_scratch4 ∗ some0 c cc0_scratch5
    ∗ some0 c cc0_scratch6 ∗ some0 c cc0_scratch7)

/-- What stays with device `c`: its positions, and the tokens of the duties it pays. -/
def linear (c : Dev nD) : sProp 𝕄 := iprop((bigSep Finset.univ fun k : Fin 97 => atPos ER (kcell (c, k)) 0 ∅ 0) ∗ payToks c)

def start (c : Dev nD) : sProp 𝕄 :=
  iprop(∃ K, records (P16 m) (RED m) K ∗ linear c ∗ cred (tallyAt (barCell c) () 31) ∗ crs c sR ∗ crs c sG)

def Φ₀ (c : Dev nD) : sProp 𝕄 := iprop(start m c ∗ scratch c)
def Φ₁ (c : Dev nD) : sProp 𝕄 :=
  iprop((unscopedSems0 c ∗ Pipeline.ownSems0 (Ix := Unit) (Name := ℕ) (U := UU) (Lvl := ℕ) (Val := Elt F) (τ := τ) osem c) ∗ scratch c)

/-- The argument windows' contents. -/
def args (c : Dev nD) : sProp 𝕄 :=
  iprop(pt c cc0_stg0_0 (aX m c) ∗ pt c cc0_stg1_0 (aQ m c) ∗ pt c cc0_stg2_0 (aK m c) ∗ pt c cc0_stg3_0 (aV m c) ∗ pt c cc0_stg4_0 (aO m c))

theorem into_some {α : Type} (Φ : α → sProp 𝕄) (a : α) : Φ a ⊢ (iprop(∃ a, Φ a) : sProp 𝕄) := by iintro H; iexists a; iexact H

/-- The gather buffer and the 16-bit result, cut into what the signals hand over and what stays. -/
theorem cut_barrier (c : Dev nD) : iprop(some0 c cc0_scratch5 ∗ some0 c cc0_scratch7 ∗ run31 fun j => dutyTok ER (barCell (peer c j)) 0 (32 - j))
    ⊢ (iprop((run31 fun j => iprop(dutyTok ER (barCell (peer c j)) 0 (32 - j) ∗ (∃ f, gatSlot c (32 - j) f) ∗ ∃ f, o16Rows c (peer c j).val f)) ∗ own c) : sProp 𝕄) := by
  have hg (f : S32x32x1024.Idx → Elt F .bf16) : (pt c cc0_scratch5 f : sProp 𝕄) ⊢ iprop((∃ f, gatSlot c 0 f) ∗ run31 fun j => iprop(∃ f, gatSlot c (32 - j) f)) := by
    rw [gat_cut, bigSep_Ico_succ_bot (a := 0) (b := 32) (by decide)]
    refine BI.sep_mono ?_ (bigSep_mono fun j hj => ?_)
    · exact into_some (fun f => gatSlot c 0 f) f
    · have := Finset.mem_Ico.mp hj
      rw [Nat.mod_eq_of_lt (by omega)]; exact into_some (fun f => gatSlot c (32 - j) f) f
  have ho (f : FVec F S1024x1024 .bf16) : (pt c cc0_scratch7 f : sProp 𝕄)
      ⊢ iprop((∃ f, o16Rows c (peer c 32).val f) ∗ run31 fun j => iprop(∃ f, o16Rows c (peer c j).val f)) := by
    rw [o16_cut, bigSep_Ico_succ_bot (a := 0) (b := 32) (by decide)]
    refine BI.sep_mono ?_ (bigSep_mono fun j hj => ?_)
    · rw [show (peer c 0).val = (peer c 32).val by rw [peer_val, peer_val]; omega]; exact into_some (fun f => o16Rows c (peer c 32).val f) f
    · exact into_some (fun f => o16Rows c (peer c j).val f) f
  unfold own
  simp only [run31, bigSep_sep']
  iintro ⟨⟨%f, Hf⟩, ⟨%g, Hg⟩, Ht⟩
  ihave Hf := (hg f) $$ Hf
  ihave Hg := (ho g) $$ Hg
  icases Hf with ⟨Hf0, Hf1⟩
  icases Hg with ⟨Hg0, Hg1⟩
  isplitr [Hf0 Hg0]
  · isplitl [Ht]; · iexact Ht
    isplitl [Hf1]; · iexact Hf1
    iexact Hg1
  isplitl [Hf0]; · iexact Hf0
  iexact Hg0

/-- The positions, array by array. -/
theorem positions (c : Dev nD) : (bigSep Finset.univ fun k : Fin 97 => (atPos ER (kcell (c, k)) 0 ∅ 0 : sProp 𝕄))
    ⊢ iprop(atPos ER (barCell c) 0 ∅ 0 ∗ ats c sS 0 ∗ ats c sR 0 ∗ ats c sG 0 ∗ idle c) := by
  refine BIBase.Entails.trans (Entails.of_eq (cell_split fun sm => atPos ER ((c : Thread nD τ), sm) 0 ∅ 0)) ?_
  unfold allSems idle
  iintro ⟨Hb, ⟨hS, HS⟩, ⟨hR, HR⟩, ⟨hG, HG⟩⟩
  isplitl [Hb]; · iexact Hb
  isplitl [HS]; · iexact HS
  isplitl [HR]; · iexact HR
  isplitl [HG]; · iexact HG
  isplitl [hS]; · iexact hS
  isplitl [hR]; · iexact hR
  iexact hG

def bodyEnd (c : Dev nD) : sProp 𝕄 := iprop(Φ₁ c ∗ owe c 0 ∗ args m c ∗ pt c cc0_stg5_0 (res m c))

/-- The body's last state is the end of the point, once every cell is closed. -/
theorem finish_end (K : Dev nD × Fin 97 → ℕ) (c : Dev nD) :
    finish (aX m) (aQ m) (aK m) (aV m) (aO m) K c (idle c) ⊢ (|={Set.univ}=> bodyEnd m c : sProp 𝕄) := by
  have hc := close_all (F := F) (P16 m) (RED m) K c
  have ho := out_done (F := F) c (res m c)
  unfold finish mid bodyEnd Φ₁ scratch args
  iintro ⟨HR, HO, Ho, ⟨H3, Hx, Hq, Hk, Hv, Hw, H0, H1, H2⟩, Hd, H4, H5, H6, H7, Hi⟩
  imod hc $$ [HR Hd Hi] with ⟨Hu, Hs⟩
  · isplitl [HR]; · iexact HR
    isplitl [Hd]; · iexact Hd
    iexact Hi
  imodintro
  isplitl [Hu Hs H0 H1 H2 H3 H4 H5 H6 H7]
  · isplitl [Hu Hs]
    · isplitl [Hu]; · iexact Hu
      iexact Hs
    isplitl [H0]; · iexists _; iexact H0
    isplitl [H1]; · iexists _; iexact H1
    isplitl [H2]; · iexists _; iexact H2
    isplitl [H3]; · iexists _; iexact H3
    isplitl [H4]; · iexists _; iexact H4
    isplitl [H5]; · iexact H5
    isplitl [H6]; · iexists _; iexact H6
    iexact H7
  isplitl [HO]; · iexact HO
  isplitr [Ho]
  · isplitl [Hx]; · iexact Hx
    isplitl [Hq]; · iexact Hq
    isplitl [Hk]; · iexact Hk
    isplitl [Hv]; · iexact Hv
    iexact Hw
  iapply ho; iexact Ho

/-- The whole body. -/
theorem body_all (c : Dev nD) : iprop(Φ₀ m c ∗ owe c (O₀ c) ∗ args m c ∗ some0 c cc0_stg5_0)
    ⊢ (run c (atRefs (cc0_body (F := F))) (fun _ => bodyEnd m c) : sProp 𝕄) := by
  have hcut := cut_barrier (F := F) c
  have hpos := positions (F := F) c
  unfold Φ₀ start scratch args linear payToks
  iintro ⟨⟨⟨%K, HR, ⟨Ha, ⟨Tb, T0, T1, TR, TG⟩⟩, Cb, CR, CG⟩, ⟨⟨%f0, H0⟩, ⟨%f1, H1⟩, ⟨%f2, H2⟩, ⟨%f3, H3⟩, ⟨%f4, H4⟩, H5, ⟨%f6, H6⟩, H7⟩⟩, HO, ⟨Hx, Hq, Hk, Hv, Hw⟩, ⟨%o, Ho⟩⟩
  ihave Hc := hcut $$ [H5 H7 Tb]
  · isplitl [H5]; · iexact H5
    isplitl [H7]; · iexact H7
    iexact Tb
  icases Hc with ⟨HB, Hown⟩
  ihave Hp := hpos $$ Ha
  icases Hp with ⟨Ab, AS, AR, AG, Hi⟩
  iapply (body_run (aX m) (aQ m) (aK m) (aV m) (aO m) K c (q := f0) (k := f1) (v := f2) (pa := f3) (p := f4) (r := f6) (o := o) (finish_end m K c))
  unfold mem stB
  isplitl [Hx Hq Hk Hv Hw H0 H1 H2 H3 H4]
  · isplitl [Hx]; · iexact Hx
    isplitl [Hq]; · iexact Hq
    isplitl [Hk]; · iexact Hk
    isplitl [Hv]; · iexact Hv
    isplitl [Hw]; · iexact Hw
    isplitl [H0]; · iexact H0
    isplitl [H1]; · iexact H1
    isplitl [H2]; · iexact H2
    isplitl [H3]; · iexact H3
    iexact H4
  isplitl [HR HO HB]
  · isplitl [HR]; · iexact HR
    isplitl [HO]; · iexact HO
    iexact HB
  isplitl [Cb Ab]
  · isplitl [Cb]; · iexact Cb
    iexact Ab
  simp only [sT, gT, run31, bigSep_sep']
  isplitl [T0 TR]
  · isplitl [T0]; · iexact T0
    iexact TR
  isplitl [CR AR]
  · isplitl [CR]; · iexact CR
    iexact AR
  isplitl [H6]; · iexact H6
  isplitl [AS]; · iexact AS
  isplitl [T1 TG]
  · isplitl [T1]; · iexact T1
    iexact TG
  isplitl [Ho]; · iexact Ho
  isplitl [CG AG]
  · isplitl [CG]; · iexact CG
    iexact AG
  isplitl [Hown]; · iexact Hown
  iexact Hi

/-! ## The pipeline's data and the body's obligation -/

def dats (_ : Fin 1) (c : Dev nD) : Dat τ (Elt F) Unit ℕ UU ℕ cfg0 c where
  A w := m ((cfg0.win w).arr.view.loc (c : Thread nD τ))
  after w _ := match w with
    | ⟨0, _⟩ => aX m c
    | ⟨1, _⟩ => aQ m c
    | ⟨2, _⟩ => aK m c
    | ⟨3, _⟩ => aV m c
    | ⟨4, _⟩ => aO m c
    | ⟨5, _⟩ => res m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole (c : Dev nD) (b : Ref sig .tc) (x : b.ty.Contents (Elt F)) :
    (owns (Ix := Unit) (Name := ℕ) (U := UU) (Lvl := ℕ) (c : Thread nD τ) (Memref.whole b) fullShare x : sProp 𝕄) = iprop(∃ f, ⌜f = x⌝ ∗ pt c b f) := by
  unfold owns; simp only [Memref.view_whole, View.read_whole, View.set_whole]

abbrev stg (c : Dev nD) (b : Ref sig .tc) (x : b.ty.Contents (Elt F)) : sProp 𝕄 := iprop(∃ f : Buf (Elt F) ((c : Thread nD τ).loc b), ⌜f = x⌝ ∗ pt c b f)

def pre (c : Dev nD) : sProp 𝕄 :=
  iprop(Φ₀ m c ∗ (dats m 0 c).owesAt () t0_0.castSucc
    ∗ (∃ d, stg c cc0_stg0_0 ((dats m 0 c).before 0 t0_0 d)) ∗ (∃ d, stg c cc0_stg1_0 ((dats m 0 c).before 1 t0_0 d)) ∗ (∃ d, stg c cc0_stg2_0 ((dats m 0 c).before 2 t0_0 d))
    ∗ (∃ d, stg c cc0_stg3_0 ((dats m 0 c).before 3 t0_0 d)) ∗ (∃ d, stg c cc0_stg4_0 ((dats m 0 c).before 4 t0_0 d)) ∗ (∃ d, stg c cc0_stg5_0 ((dats m 0 c).before 5 t0_0 d)))
def post (c : Dev nD) : sProp 𝕄 :=
  iprop(Φ₁ c ∗ (dats m 0 c).owesAt () t0_0.succ ∗ stg c cc0_stg0_0 (aX m c) ∗ stg c cc0_stg1_0 (aQ m c) ∗ stg c cc0_stg2_0 (aK m c)
    ∗ stg c cc0_stg3_0 (aV m c) ∗ stg c cc0_stg4_0 (aO m c) ∗ stg c cc0_stg5_0 (res m c))

theorem pre_all (c : Dev nD) : pre m c ⊢ iprop(Φ₀ m c ∗ owe c (O₀ c) ∗ args m c ∗ some0 c cc0_stg5_0) := by
  have hx (d) : (dats m 0 c).before 0 t0_0 d = aX m c := by unfold Dat.before; rw [if_pos (fetch0_0 t0_0)]; rfl
  have hq (d) : (dats m 0 c).before 1 t0_0 d = aQ m c := by unfold Dat.before; rw [if_pos (fetch0_1 t0_0)]; rfl
  have hk (d) : (dats m 0 c).before 2 t0_0 d = aK m c := by unfold Dat.before; rw [if_pos (fetch0_2 t0_0)]; rfl
  have hv (d) : (dats m 0 c).before 3 t0_0 d = aV m c := by unfold Dat.before; rw [if_pos (fetch0_3 t0_0)]; rfl
  have hw (d) : (dats m 0 c).before 4 t0_0 d = aO m c := by unfold Dat.before; rw [if_pos (fetch0_4 t0_0)]; rfl
  unfold pre args owe
  simp only [hx, hq, hk, hv, hw]
  unfold Dat.owesAt Pipeline.owesWithin
  rw [show (dats m 0 c).owed t0_0.castSucc = O₀ c from rfl]
  iintro ⟨HΦ, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  subst h0 h1 h2 h3 h4
  isplitl [HΦ]; · iexact HΦ
  isplitl [HO]; · iexists W; iexact HO
  isplitr [H5]
  · isplitl [H0]; · iexact H0
    isplitl [H1]; · iexact H1
    isplitl [H2]; · iexact H2
    isplitl [H3]; · iexact H3
    iexact H4
  iexists g5; iexact H5

theorem end_post (c : Dev nD) : bodyEnd m c ⊢ post m c := by
  unfold bodyEnd post args owe Dat.owesAt Pipeline.owesWithin
  rw [show (dats m 0 c).owed t0_0.succ = 0 from rfl]
  iintro ⟨HΦ, ⟨%W, HO⟩, ⟨H0, H1, H2, H3, H4⟩, H5⟩
  isplitl [HΦ]; · iexact HΦ
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 30000 in
theorem body_obligation (c : Dev nD) : BodyObligation (dats m 0 c) (defs₀ (F := F)) 𝒱₀ () Set.univ := fun t => by
  rw [fin_N0 t]
  rw [bigSep_W0, bigSep_W0]
  simp only [owns_whole]
  show pre m c ⊢ run c (atRefs (cc0_body (F := F))) (fun _ => post m c)
  refine BIBase.Entails.trans (pre_all m c) (BIBase.Entails.trans (body_all m c) ?_)
  exact (wp frame (wpE (defs₀ (F := F)) 𝒱₀ c none) Set.univ (atRefs (cc0_body (F := F)))).mono fun _ => end_post m c

end Cert.Attn
end
-- ==== Proof.Run.lean ====
/-
# The run

The semaphores and their tokens as every device is given them, and the run of the whole program: it ends with the result of the
kernel in every device's result array, the arguments unchanged and every semaphore at zero.
-/
module

public import proofs.«01_k».proof.Proof.Point
public import Idealize.ShloMosaic.Lib.Pipeline.CollectiveSegs

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev plan := sched (P16 m) (RED m)

/-! ## What a device is dealt -/

def u₀ : UU := (initOf (Pipeline.cells cfgs cellOf_inj) (Pipeline.launchToks cfgs cellOf_inj), initOf allCells allToks)

def G (c : Dev nD) : sProp 𝕄 :=
  iprop((bigSep Finset.univ fun k : Fin 97 => roundState ER (plan m) (kcell (c, k)) 0)
    ∗ (bigSep Finset.univ fun k : Fin 97 => iprop(atPos ER (kcell (c, k)) 0 ∅ 0 ∗ reached ER (kcell (c, k)) 0)) ∗ toks c)

/-- The cells' invariants and their first rounds. -/
def cellRec (K : Dev nD × Fin 97 → ℕ) : sProp 𝕄 :=
  iprop((bigSep Finset.univ fun x : Dev nD × Fin 97 => cellInv ER (plan m) (K x) (kcell x)) ∗ bigSep Finset.univ fun x : Dev nD × Fin 97 => reached ER (kcell x) 0)

instance cellRec_persistent (K : Dev nD × Fin 97 → ℕ) : BI.Persistent (cellRec m K) := by unfold cellRec; infer_instance

def G' (c : Dev nD) : sProp 𝕄 := iprop(∃ K, cellRec m K ∗ linear c)

theorem fund_all : BI.own (ER (initOf allCells allToks)) ⊢ (|==> bigSep Finset.univ (G m) : sProp 𝕄) := by
  iintro HX
  imod (Rounds.fund ER (plan m) allCells allToks) $$ HX with ⟨Hst, Hr, Hat, Htok⟩
  imodintro
  ihave Hst := (Entails.of_eq (allCells_eq fun g => roundState ER (plan m) g 0)) $$ Hst
  ihave Hat := (Entails.of_eq (allCells_eq fun g => atPos ER g 0 ∅ 0)) $$ Hat
  ihave Hr := (Entails.of_eq (allCells_eq fun g => reached ER g 0)) $$ Hr
  ihave Htok := (Entails.of_eq allToks_eq) $$ Htok
  unfold G; simp only [bigSep_sep']
  isplitl [Hst]; · iexact Hst
  isplitl [Hat Hr]
  · isplitl [Hat] <;> iassumption
  iexact Htok

/-- A device's counters at zero and its cells' states become its cells' invariants. -/
theorem device_invs (c : Dev nD) :
    iprop((bigSep Finset.univ fun k : Fin 97 => semVal (kcell (c, k)) 0) ∗ bigSep Finset.univ fun k : Fin 97 => roundState ER (plan m) (kcell (c, k)) 0)
      ⊢ (|={Set.univ}=> bigSep Finset.univ fun k => iprop(∃ κ : ℕ, cellInv ER (plan m) κ (kcell (c, k))) : sProp 𝕄) := by
  rw [← bigSep_sep']
  exact (bigSep_mono fun k _ => (Rounds.body_intro ER (plan m) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (plan m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (device_invs m c) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k => iprop(∃ κ : ℕ, cellInv ER (plan m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun x : Dev nD × Fin 97 => iprop(∃ κ : ℕ, cellInv ER (plan m) κ (kcell x))),
    bigSep_congr (s := Finset.univ) (fun (c : Dev nD) _ => bigSep_sep' Finset.univ (fun k : Fin 97 => (atPos ER (kcell (c, k)) 0 ∅ 0 : sProp 𝕄)) (fun k => reached ER (kcell (c, k)) 0)),
    bigSep_sep', ← bigSep_univ_prod (fun x : Dev nD × Fin 97 => (reached ER (kcell x) 0 : sProp 𝕄)), toks_around]
  iintro ⟨HI, ⟨Hat, #HR⟩, Htok⟩
  ihave HK := (BI.bigSep_exists_pi Finset.univ (fun (x : Dev nD × Fin 97) (κ : ℕ) => (cellInv ER (plan m) κ (kcell x) : sProp 𝕄))) $$ HI
  icases HK with ⟨%K, #HI⟩
  iapply (bigSep_with_persistent (R := cellRec m K) (Φ := fun c => linear c) (Ψ := G' m) fun c _ => by
    unfold G'; iintro ⟨HR, HL⟩; iexists K
    isplitl [HR]; · iexact HR
    iexact HL)
  unfold linear
  simp only [bigSep_sep']
  isplitr
  · unfold cellRec; isplitl; · iexact HI
    iexact HR
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's conditions -/

theorem ownSemFacts : Pipeline.OwnSemFacts cfg0.spec osem := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, Hlev, Hcr, -, ⟨%K, HR, HL⟩⟩
  ihave Hc := (creds (F := F) c) $$ Hcr
  imodintro
  isplitl
  · iexists K
    isplitl [HR Hlev]
    · unfold cellRec records
      icases HR with ⟨H1, H2⟩
      isplitl [H1]; · iexact H1
      isplitl [H2]; · iexact H2
      iexact Hlev
    isplitl [HL]; · iexact HL
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scratch
  iintro ⟨⟨Hu, Hs⟩, Hr⟩
  isplitl [Hu]; · iexact Hu
  isplitl [Hs]; · iexact Hs
  iexact Hr

theorem waits (c : Dev nD) : (levAts L lv : sProp 𝕄) ⊢ Pipeline.cellsWaits cfgs (dats m) () 0 c :=
  Pipeline.cellsWaits_intro cfgs (dats m) () 0 c fun w s t => by
    have hl : lv ((c : Thread nD τ), .dma ((cfg0.win w).sem s)) () = 0 := by fin_cases w <;> fin_cases s <;> rfl
    rcases t with ⟨_ | _, ht⟩
    · exact mayWait_of c _ hl (above_add (above_owB (by decide) c 1) (above_add (above_owR (by decide) c 1) (above_owG (by decide) c 1 (by decide))))
    · exact mayWait_of c _ hl (above_zero 0)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- For any float values, from any memory with zero counters, every fair execution of the program on the 32 devices ends, with the
    windows' arrays at their final contents and every semaphore at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array after the run holds what it held. -/
theorem finalA_arg (c : Dev nD) (w : Fin cfg0.W) (h : (cfg0.win w).isOut = false) : finalA m c w = m ((cfg0.win w).arr.view.loc (c : Thread nD τ)) :=
  (dats m 0 c).arrAt_in w h _

end Cert.Attn
end
-- ==== Proof.Spec.lean ====
/-
# The mathematics

Attention with rotary embedding over the extended reals, as functions of numbers: the tables of the rotation, one head, the
projections, and the product with the output weights summed over the heads. It names neither program.
-/
module

public import Idealize.ShloMosaic.Lib.Pointwise

@[expose] public section

noncomputable section

namespace Cert.Spec

open Idealize.ShloMosaic

/-- The angle of position `i` at column `d`: both columns of a pair turn by the same angle. -/
def ang (i : Fin 512) (d : Fin 128) : ℝ := (i.val : ℝ) * ((10000 : ℝ) ^ (((2 * (d.val / 2) : ℕ) : ℝ) / 128))⁻¹
def cosE (i : Fin 512) (d : Fin 128) : EReal := ((Real.cos (ang i d) : ℝ) : EReal)
def sinE (i : Fin 512) (d : Fin 128) : EReal := ((Real.sin (ang i d) : ℝ) : EReal)

/-- A row with the two columns of each pair exchanged and the new left one negated. -/
def swap (q : Fin 128 → EReal) (d : Fin 128) : EReal :=
  if d.val % 2 = 0 then -q ⟨(d.val + 1) % 128, Nat.mod_lt _ (by decide)⟩ else q ⟨(d.val + 127) % 128, Nat.mod_lt _ (by decide)⟩

/-- The rotary embedding. -/
def rope (q : Fin 512 → Fin 128 → EReal) (i : Fin 512) (d : Fin 128) : EReal := q i d * cosE i d + swap (q i) d * sinE i d

/-- The scaled scores, the weights before their normalisation, and a head's output. -/
def score (q k : Fin 512 → Fin 128 → EReal) (i j : Fin 512) : EReal := (∑ d : Fin 128, rope q i d * rope k j d) * Ideal.ofBits .f32 0x3DB504F3#32
def weight (q k : Fin 512 → Fin 128 → EReal) (i j : Fin 512) : EReal :=
  Ideal.exp (score q k i j - Finset.fold max (Ideal.ofBits .f32 0xFF800000#32) (fun l => score q k i l) Finset.univ)
def head (q k v : Fin 512 → Fin 128 → EReal) (i : Fin 512) (d : Fin 128) : EReal :=
  ∑ j : Fin 512, Ideal.div (weight q k i j) (∑ l : Fin 512, weight q k i l) * v j d

section Whole
variable (X : Fin 2 → Fin 512 → Fin 1024 → EReal) (WQ WK WV : Fin 1024 → Fin 32768 → EReal) (WO : Fin 32768 → Fin 1024 → EReal)

/-- Head `h` of a projection, for batch `b`. -/
def proj (W : Fin 1024 → Fin 32768 → EReal) (b : Fin 2) (h : Fin 256) (i : Fin 512) (d : Fin 128) : EReal :=
  ∑ k : Fin 1024, X b i k * W k ⟨128 * h.val + d.val, by omega⟩

/-- All heads side by side. -/
def ctx (b : Fin 2) (i : Fin 512) (n : Fin 32768) : EReal :=
  head (proj X WQ b ⟨n.val / 128, by omega⟩) (proj X WK b ⟨n.val / 128, by omega⟩) (proj X WV b ⟨n.val / 128, by omega⟩) i ⟨n.val % 128, Nat.mod_lt _ (by decide)⟩

/-- The result at row `r` of the 1024 and column `e`. -/
def out (r e : Fin 1024) : EReal :=
  ∑ n : Fin 32768, ctx X WQ WK WV ⟨r.val / 512, by omega⟩ ⟨r.val % 512, Nat.mod_lt _ (by decide)⟩ n * WO n e

/-- The part of the result that the `c`-th eight heads make up. -/
def part (c : Fin 32) (r e : Fin 1024) : EReal :=
  ∑ n : Fin 1024, ctx X WQ WK WV ⟨r.val / 512, by omega⟩ ⟨r.val % 512, Nat.mod_lt _ (by decide)⟩ ⟨1024 * c.val + n.val, by omega⟩
    * WO ⟨1024 * c.val + n.val, by omega⟩ e

/-- The result is the sum of its 32 parts. -/
theorem out_eq_sum (r e : Fin 1024) : out X WQ WK WV WO r e = ∑ c : Fin 32, part X WQ WK WV WO c r e := by
  unfold out part
  rw [← (finProdFinEquiv (m := 32) (n := 1024)).sum_comp, Fintype.sum_prod_type]
  refine Finset.sum_congr rfl fun c _ => Finset.sum_congr rfl fun n _ => ?_
  have e1 : (finProdFinEquiv (c, n) : Fin (32 * 1024)) = (⟨1024 * c.val + n.val, by omega⟩ : Fin 32768) := Fin.ext (by simp [finProdFinEquiv]; omega)
  rw [e1]

end Whole

/-! ## The two spellings of the angle -/

/-- A small number's word, read as a number. -/
theorem word_num {n : ℕ} (h : n < 1024) : FloatOps.sitofp (F := Ideal) .f32 (BitVec.ofNat 32 n) = ((n : ℝ) : EReal) := by
  show (((BitVec.ofNat 32 n).toInt : ℝ) : EReal) = _
  have e : (BitVec.ofNat 32 n).toInt = (n : ℤ) := by
    rw [BitVec.toInt_eq_toNat_of_lt (by rw [BitVec.toNat_ofNat]; omega), BitVec.toNat_ofNat, Nat.mod_eq_of_lt (by omega)]
  rw [e, Int.cast_natCast]

theorem bits_base : Ideal.ofBits .f32 0x461C4000#32 = ((10000 : ℝ) : EReal) := by
  simp [Ideal.ofBits, Ideal.ieee]
  rw [← EReal.coe_mul]; norm_num
theorem bits_width : Ideal.ofBits .f32 0x43000000#32 = ((128 : ℝ) : EReal) := by
  simp [Ideal.ofBits, Ideal.ieee]
  rw [← EReal.coe_mul]; norm_num

/-- Division by a real other than zero. -/
theorem div_real (x y : ℝ) (h : y ≠ 0) : Ideal.div (x : EReal) (y : EReal) = ((x / y : ℝ) : EReal) := by
  unfold Ideal.div
  rw [if_neg (by exact_mod_cast h), div_eq_mul_inv, EReal.coe_mul, EReal.coe_inv]

/-- The exponential of a multiple of `-log 10000 / 128`. -/
theorem freq_exp (t : ℝ) :
    Ideal.exp ((t : EReal) * Ideal.div (0 - Ideal.log ((10000 : ℝ) : EReal)) ((128 : ℝ) : EReal)) = ((((10000 : ℝ) ^ (t / 128))⁻¹ : ℝ) : EReal) := by
  have e : (0 : EReal) - Ideal.log ((10000 : ℝ) : EReal) = ((-Real.log 10000 : ℝ) : EReal) := by
    rw [Ideal.log_coe, if_neg (by norm_num), zero_sub, EReal.coe_neg]
  rw [e, div_real _ _ (by norm_num), ← EReal.coe_mul, Ideal.exp_coe, Real.rpow_def_of_pos (by norm_num), ← Real.exp_neg]
  congr 2; ring

/-- One over a power of 10000. -/
theorem freq_pow (t : ℝ) :
    Ideal.div 1 (Ideal.pow ((10000 : ℝ) : EReal) (Ideal.div (t : EReal) ((128 : ℝ) : EReal))) = ((((10000 : ℝ) ^ (t / 128))⁻¹ : ℝ) : EReal) := by
  rw [div_real _ _ (by norm_num), Ideal.pow_coe_coe]
  have := div_real 1 ((10000 : ℝ) ^ (t / 128)) (Real.rpow_pos_of_pos (by norm_num) _).ne'
  rw [one_div, EReal.coe_one] at this
  exact this

end Cert.Spec

end

end
-- ==== Proof.Local.lean ====
/-
# A device's values as numbers

What a device computes by itself, read element by element over the extended reals: the tables, the rotation, a head, the
projections and the partial product.
-/
module

public import proofs.«01_k».proof.Proof.Values
public import proofs.«01_k».proof.Proof.Spec

@[expose] public section

noncomputable section

namespace Cert.Attn

open Cert.KernelIdeal Cert.KernelIdeal.Gen Cert.Spec
open Idealize.ShloMosaic

/-! ## The tables -/

theorem even_word : ∀ d : Fin 128, IntOp.subi (BitVec.ofNat 32 d.val) (IntOp.remsi .vector (BitVec.ofNat 32 d.val) 2#32) = BitVec.ofNat 32 (2 * (d.val / 2)) := by
  decide +kernel
theorem even_bit : ∀ d : Fin 128, IntOp.cmpi .eq (IntOp.remsi .vector (BitVec.ofNat 32 d.val) 2#32) 0#32 = if d.val % 2 = 0 then 1#1 else 0#1 := by
  decide +kernel

theorem ang_word (i : Fin 512) (d : Fin 128) : k0_pay8 (F := Ideal) k0_pay5 k0_pay6 k0_pay7 (ix2 i d) = ((ang i d : ℝ) : EReal) := by
  pointwise [k0_pay8, k0_pay5, k0_pay6, k0_pay7]
  have hl (x : Ideal .f32) : Scalar.log x = Ideal.log x := rfl
  rw [even_word, word_num (by omega), word_num (by omega), bits_base, bits_width, hl]
  exact (congrArg _ (freq_exp _)).trans (EReal.coe_mul _ _).symm

theorem cosT_apply (i : Fin 512) (d : Fin 128) : cosT (F := Ideal) (ix2 i d) = cosE i d := by
  show Ideal.cos (k0_pay8 (F := Ideal) k0_pay5 k0_pay6 k0_pay7 (ix2 i d)) = _
  rw [ang_word]; rfl
theorem sinT_apply (i : Fin 512) (d : Fin 128) : sinT (F := Ideal) (ix2 i d) = sinE i d := by
  show Ideal.sin (k0_pay8 (F := Ideal) k0_pay5 k0_pay6 k0_pay7 (ix2 i d)) = _
  rw [ang_word]; rfl
theorem evenT_apply (i : Fin 512) (d : Fin 128) : evenT (ix2 i d) = if d.val % 2 = 0 then 1#1 else 0#1 := by
  pointwise [evenT, k0_pay11]
  exact even_bit d

/-! ## A head -/

/-- The rotated block, as the kernel spells it. -/
def ropeV (q : FVec Ideal S512x128 .f32) : FVec Ideal S512x128 .f32 :=
  addf (mulf q cosT) (mulf (select evenT
    (subf (broadcast S512x128 (Scalar.ofBits .f32 0x00000000#32)) (concatenate S512x128 1
      [⟨S512x127, extractStridedSlice S512x127 ![0, 1] q slices_S512x128_o0_1_S512x127⟩,
        ⟨S512x1, extractStridedSlice S512x1 ![0, 0] q slices_S512x128_o0_0_S512x1⟩] concatenates_S512x127_S512x1_S512x128_d1))
    (concatenate S512x128 1
      [⟨S512x1, extractStridedSlice S512x1 ![0, 127] q slices_S512x128_o0_127_S512x1⟩,
        ⟨S512x127, extractStridedSlice S512x127 ![0, 0] q slices_S512x128_o0_0_S512x127⟩] concatenates_S512x1_S512x127_S512x128_d1)) sinT)

theorem ropeV_apply (q : FVec Ideal S512x128 .f32) (i : Fin 512) (d : Fin 128) : ropeV q (ix2 i d) = rope (fun i d => q (ix2 i d)) i d := by
  pointwise [ropeV]
  rw [cosT_apply, sinT_apply, evenT_apply]
  unfold rope swap
  congr 2
  by_cases h : d.val % 2 = 0
  · rw [if_pos h, if_pos h, dif_pos (show d.val < 127 by omega)]
    show (0 : EReal) - _ = _
    rw [zero_sub]
    exact congrArg (fun l => -q (ix2 i l)) (Fin.ext (by show 1 + d.val = (d.val + 1) % 128; omega))
  · rw [if_neg h, if_neg h, dif_neg (show ¬d.val < 1 by omega)]
    show q _ = _
    exact congrArg (fun l => q (ix2 i l)) (Fin.ext (by show d.val - 1 = (d.val + 127) % 128; omega))

/-- The weights before their normalisation, from the rotated blocks. -/
def weightV (q k : FVec Ideal S512x128 .f32) : FVec Ideal S512x512 .f32 :=
  have s : FVec Ideal S512x512 .f32 := mulf (matmul dot_S512x128_S512x128_S512x512_1_1_0_0_n_n none q k (constant S512x512 .f32 0x00000000#32))
    (broadcast S512x512 (Scalar.ofBits .f32 0x3DB504F3#32))
  exp (subf s (broadcastTo S512x512 (shapeCast S512x1 (multiReduction .maximumf [1] S512 s 0xFF800000#32 reduces_S512x512_S512 (.inl rfl) rfl)
    shapeCasts_S512_S512x1) broadcasts_S512x1_S512x512))

theorem expo_eq (q k : FVec Ideal S512x128 .f32) : expo q k = weightV (ropeV q) (ropeV k) := rfl

theorem expo_apply (q k : FVec Ideal S512x128 .f32) (i j : Fin 512) :
    expo q k (ix2 i j) = weight (fun i d => q (ix2 i d)) (fun i d => k (ix2 i d)) i j := by
  rw [expo_eq]
  pointwise [weightV]
  simp only [ropeV_apply]
  rfl

theorem headOf_apply (q k v : FVec Ideal S512x128 .f32) (i : Fin 512) (d : Fin 128) :
    headOf q k v (ix2 i d) = head (fun i d => q (ix2 i d)) (fun i d => k (ix2 i d)) (fun i d => v (ix2 i d)) i d := by
  unfold headOf
  generalize he : expo q k = e
  pointwise [k0_pay15]
  simp only [← he, expo_apply]
  rfl

/-! ## The projections and the partial product -/

theorem pay2_apply (X : Vec Ideal S2x512x1024 .f32) (W : Vec Ideal S1024x1024 .f32) (r n : Fin 1024) :
    k0_pay2 X W (ix2 r n) = ∑ k : Fin 1024, X (ix3 ⟨r.val / 512, by omega⟩ ⟨r.val % 512, Nat.mod_lt _ (by decide)⟩ k) * W (ix2 k n) := by
  pointwise [k0_pay2, k0_pay1]

theorem pay43_apply (u w : FVec Ideal S1024x1024 .f32) (r e : Fin 1024) : k0_pay43 (F := Ideal) u w (ix2 r e) = ∑ n : Fin 1024, u (ix2 r n) * w (ix2 n e) := by
  pointwise [k0_pay43]

end Cert.Attn

end

end
-- ==== Proof.Total.lean ====
/-
# The kernel's result as numbers

From arrays of which every device holds its part, the result on every device is the attention of Spec.lean: a device's partial
product covers its eight heads, its rows of the sum take one part from every device, and the rows of the others arrive as summed.
-/
module

public import proofs.«01_k».proof.Proof.Local
public import Idealize.ShloMosaic.Lib.Pointwise.IndexBridge

@[expose] public section

noncomputable section

namespace Cert.Attn

open Cert.KernelIdeal Cert.KernelIdeal.Gen
open Idealize.ShloMosaic

/-- The three projections are one computation. -/
theorem pay3_eq (X : Vec Ideal S2x512x1024 .f32) (W : Vec Ideal S1024x1024 .f32) : k0_pay3 X W = k0_pay2 X W := rfl
theorem pay4_eq (X : Vec Ideal S2x512x1024 .f32) (W : Vec Ideal S1024x1024 .f32) : k0_pay4 X W = k0_pay2 X W := rfl

/-! ## A device's heads -/

section Heads
variable (fX : Fin 2 → Fin 512 → Fin 1024 → EReal) (c : Dev nD)

/-- A block of a device's projection is a head of the whole projection. -/
theorem blk_proj (fW : Fin 1024 → Fin 32768 → EReal) (f : FVec Ideal S1024x1024 .f32)
    (hf : ∀ r n : Fin 1024, f (ix2 r n) = ∑ k : Fin 1024, fX ⟨r.val / 512, by omega⟩ ⟨r.val % 512, Nat.mod_lt _ (by decide)⟩ k
      * fW k ⟨1024 * c.val + n.val, by have := dlt c; omega⟩)
    (n : ℕ) (b : Fin 2) (h : Fin 256) (hb : n / 8 = b.val) (hh : 8 * c.val + n % 8 = h.val) :
    (fun i d => blk f n (ix2 i d)) = Spec.proj fX fW b h := by
  funext i d
  have hi := i.isLt
  have hd := d.isLt
  have hb2 := b.isLt
  show f (ValueIdx.ix2 ⟨(512 * (n / 8) + i.val) % 1024, Nat.mod_lt _ (by decide)⟩ ⟨(128 * (n % 8) + d.val) % 1024, Nat.mod_lt _ (by decide)⟩) = _
  rw [← ix2_eq_valueIdx, hf]
  unfold Spec.proj
  refine Finset.sum_congr rfl fun k _ => congrArg₂ (fun a b : EReal => a * b)
    (congrArg₂ (fun b i => fX b i k) (Fin.ext ?_) (Fin.ext ?_)) (congrArg (fW k) (Fin.ext ?_))
  · show (512 * (n / 8) + i.val) % 1024 / 512 = b.val; omega
  · show (512 * (n / 8) + i.val) % 1024 % 512 = i.val; omega
  · show 1024 * c.val + (128 * (n % 8) + d.val) % 1024 = 128 * h.val + d.val; omega

end Heads

section Whole
variable (fX : Fin 2 → Fin 512 → Fin 1024 → EReal) (fQ fK fV : Fin 1024 → Fin 32768 → EReal) (fO : Fin 32768 → Fin 1024 → EReal)
  (X : Dev nD → Vec Ideal S2x512x1024 .f32) (WQ WK WV WO : Dev nD → Vec Ideal S1024x1024 .f32)

/-- What the devices start from: the input, and their columns and rows of the weights. -/
structure Starts : Prop where
  x : ∀ c b i k, X c (ix3 b i k) = fX b i k
  q : ∀ (c : Dev nD) (k n : Fin 1024), WQ c (ix2 k n) = fQ k ⟨1024 * c.val + n.val, by have := dlt c; omega⟩
  k : ∀ (c : Dev nD) (k n : Fin 1024), WK c (ix2 k n) = fK k ⟨1024 * c.val + n.val, by have := dlt c; omega⟩
  v : ∀ (c : Dev nD) (k n : Fin 1024), WV c (ix2 k n) = fV k ⟨1024 * c.val + n.val, by have := dlt c; omega⟩
  o : ∀ (c : Dev nD) (n e : Fin 1024), WO c (ix2 n e) = fO ⟨1024 * c.val + n.val, by have := dlt c; omega⟩ e

variable {fX fQ fK fV fO X WQ WK WV WO} (H : Starts fX fQ fK fV fO X WQ WK WV WO)
include H

theorem ctx_apply (c : Dev nD) (r n : Fin 1024) : ctx X WQ WK WV c (ix2 r n)
    = Spec.ctx fX fQ fK fV ⟨r.val / 512, by omega⟩ ⟨r.val % 512, Nat.mod_lt _ (by decide)⟩ ⟨1024 * c.val + n.val, by have := dlt c; omega⟩ := by
  have hc := dlt c
  have hr := r.isLt
  have hn := n.isLt
  unfold ctx hd headIn
  rw [← ix2_eq_valueIdx, headOf_apply,
    blk_proj fX c fQ (qOf X WQ c) (fun r n => by unfold qOf; rw [pay2_apply]; simp only [H.x, H.q]) _ ⟨r.val / 512, by omega⟩ ⟨(1024 * c.val + n.val) / 128, by omega⟩
      (by show (8 * (r.val / 512) + n.val / 128) / 8 = r.val / 512; omega) (by show 8 * c.val + (8 * (r.val / 512) + n.val / 128) % 8 = (1024 * c.val + n.val) / 128; omega),
    blk_proj fX c fK (kOf X WK c) (fun r n => by unfold kOf; rw [pay3_eq, pay2_apply]; simp only [H.x, H.k]) _ ⟨r.val / 512, by omega⟩ ⟨(1024 * c.val + n.val) / 128, by omega⟩
      (by show (8 * (r.val / 512) + n.val / 128) / 8 = r.val / 512; omega) (by show 8 * c.val + (8 * (r.val / 512) + n.val / 128) % 8 = (1024 * c.val + n.val) / 128; omega),
    blk_proj fX c fV (vOf X WV c) (fun r n => by unfold vOf; rw [pay4_eq, pay2_apply]; simp only [H.x, H.v]) _ ⟨r.val / 512, by omega⟩ ⟨(1024 * c.val + n.val) / 128, by omega⟩
      (by show (8 * (r.val / 512) + n.val / 128) / 8 = r.val / 512; omega) (by show 8 * c.val + (8 * (r.val / 512) + n.val / 128) % 8 = (1024 * c.val + n.val) / 128; omega)]
  unfold Spec.ctx
  refine congrArg (Spec.head _ _ _ _) (Fin.ext ?_)
  show n.val % 128 = (1024 * c.val + n.val) % 128
  omega

theorem partOf_apply (c : Dev nD) (r e : Fin 1024) : partOf X WQ WK WV WO c (ix2 r e) = Spec.part fX fQ fK fV fO c r e := by
  unfold partOf
  rw [pay43_apply]
  simp only [ctx_apply H, H.o]
  rfl

/-! ## The sum over the devices -/

theorem part16_apply (c : Dev nD) (r e : Fin 1024) : part16 X WQ WK WV WO c (ix2 r e) = Spec.part fX fQ fK fV fO c r e := by
  rw [← partOf_apply H]
  unfold part16
  pointwise [k0_pay44]

theorem slotF_apply (c : Dev nD) {j : ℕ} (hj : j < 32) (a : Fin 32) (e : Fin 1024) :
    slotF c (part16 X WQ WK WV WO) j (ix2 a e) = Spec.part fX fQ fK fV fO (peer c (32 - j)) (rowIx c a) e := by
  rw [← part16_apply H]
  unfold slotF
  generalize hs : slotV c (part16 X WQ WK WV WO) j = s
  pointwise []
  subst hs
  unfold slotV gatOf
  rw [ix2_eq_valueIdx]
  refine congrArg (fun d => part16 X WQ WK WV WO (peer c (32 - d)) _) ?_
  show (j + 0) % 32 = j
  omega

theorem acc_apply (c : Dev nD) (a : Fin 32) (e : Fin 1024) : ∀ n : ℕ, n < 32 →
    acc X WQ WK WV WO c n (ix2 a e) = ∑ j ∈ Finset.range (n + 1), Spec.part fX fQ fK fV fO (peer c (32 - j)) (rowIx c a) e
  | 0, _ => by
    have hc := dlt c
    have ha := a.isLt
    rw [Finset.sum_range_one]
    show partOf X WQ WK WV WO c (ValueIdx.ix2 ⟨(32 * c.val + a.val) % 1024, Nat.mod_lt _ (by decide)⟩ e) = _
    rw [← ix2_eq_valueIdx, partOf_apply H]
    have h1 : peer c (32 - 0) = c := Fin.ext (by rw [peer_val]; omega)
    rw [h1]
    exact congrArg (fun r => Spec.part fX fQ fK fV fO c r e) (Fin.ext (by show (32 * c.val + a.val) % 1024 = 32 * c.val + a.val; omega))
  | n + 1, h => by
    rw [Finset.sum_range_succ, ← acc_apply c a e n (by omega), ← slotF_apply H c h]
    rfl

/-- A device's rows of the result. -/
theorem acc_end (c : Dev nD) (a : Fin 32) (e : Fin 1024) : acc X WQ WK WV WO c 31 (ix2 a e) = Spec.out fX fQ fK fV fO (rowIx c a) e := by
  rw [acc_apply H c a e 31 (by decide), Spec.out_eq_sum, Finset.sum_range]
  have hc := dlt c
  refine Function.Bijective.sum_comp (e := fun j : Fin 32 => (peer c (32 - j.val) : Fin 32)) ?_ (fun d => Spec.part fX fQ fK fV fO d (rowIx c a) e)
  refine Finite.injective_iff_bijective.mp fun i j h => Fin.ext ?_
  have h' : (c.val + (32 - i.val)) % 32 = (c.val + (32 - j.val)) % 32 := congrArg Fin.val h
  omega

theorem redOf_apply (c : Dev nD) (a : Fin 32) (e : Fin 1024) : redOf X WQ WK WV WO c (ix2 a e) = Spec.out fX fQ fK fV fO (rowIx c a) e := by
  rw [← acc_end H]
  unfold redOf
  generalize acc X WQ WK WV WO c 31 = s
  pointwise []

/-- The kernel's result on every device. -/
theorem outOf_apply (c : Dev nD) (r e : Fin 1024) : outOf X WQ WK WV WO c (ix2 r e) = Spec.out fX fQ fK fV fO r e := by
  have hr := r.isLt
  unfold outOf
  by_cases h : r.val / 32 = c.val
  · refine (if_pos h).trans ?_
    show acc X WQ WK WV WO c 31 (ValueIdx.ix2 (rowIn r) e) = _
    rw [← ix2_eq_valueIdx, acc_end H]
    exact congrArg (fun r => Spec.out fX fQ fK fV fO r e) (Fin.ext (by show 32 * c.val + r.val % 32 = r.val; omega))
  · refine (if_neg h).trans ?_
    show redOf X WQ WK WV WO (rowDev r) (ValueIdx.ix2 (rowIn r) e) = _
    rw [← ix2_eq_valueIdx, redOf_apply H]
    exact congrArg (fun r => Spec.out fX fQ fK fV fO r e) (Fin.ext (by show 32 * (r.val / 32) + r.val % 32 = r.val; omega))

end Whole

end Cert.Attn

end

end
-- ==== Proof.Arrays.lean ====
/-
# The arrays before and after the run

Every window is its whole array: what a device works with is its arguments' contents, and its result array ends at what the
body left.
-/
module

public import proofs.«01_k».proof.Proof.Run
public import proofs.«01_k».proof.Proof.Total

@[expose] public section

noncomputable section

namespace Cert.Attn

open Cert.KernelIdeal Cert.KernelIdeal.Gen
open Idealize.ShloMosaic
open Idealize.ShloMosaic.TcCoe

variable {F : FTy → Type} [FloatOps F] (m : (ℓ : Loc nD τ sig) → Buf (Elt F) ℓ)

/-- Every window's block is at the start of its array. -/
theorem at_zero : ∀ (w : Fin cfg0.W) (a : Fin (cfg0.win w).shape.rank), (cfg0.win w).index t0_0 a = 0 := by
  decide +kernel

theorem aX_eq (c : Dev nD) : aX m c = m ((c : Thread nD τ).loc main_arg0) := by
  funext j
  show m ((c : Thread nD τ).loc main_arg0) (((cfg0.win 0).blk t0_0).view.emb j) = _
  exact congrArg _ (funext fun a => Fin.ext (Pipeline.Window.rect_emb_val_of_index_zero (cfg0.win 0) t0_0 a (at_zero 0 a) j))
theorem aQ_eq (c : Dev nD) : aQ m c = m ((c : Thread nD τ).loc main_arg1) := by
  funext j
  show m ((c : Thread nD τ).loc main_arg1) (((cfg0.win 1).blk t0_0).view.emb j) = _
  exact congrArg _ (funext fun a => Fin.ext (Pipeline.Window.rect_emb_val_of_index_zero (cfg0.win 1) t0_0 a (at_zero 1 a) j))
theorem aK_eq (c : Dev nD) : aK m c = m ((c : Thread nD τ).loc main_arg2) := by
  funext j
  show m ((c : Thread nD τ).loc main_arg2) (((cfg0.win 2).blk t0_0).view.emb j) = _
  exact congrArg _ (funext fun a => Fin.ext (Pipeline.Window.rect_emb_val_of_index_zero (cfg0.win 2) t0_0 a (at_zero 2 a) j))
theorem aV_eq (c : Dev nD) : aV m c = m ((c : Thread nD τ).loc main_arg3) := by
  funext j
  show m ((c : Thread nD τ).loc main_arg3) (((cfg0.win 3).blk t0_0).view.emb j) = _
  exact congrArg _ (funext fun a => Fin.ext (Pipeline.Window.rect_emb_val_of_index_zero (cfg0.win 3) t0_0 a (at_zero 3 a) j))
theorem aO_eq (c : Dev nD) : aO m c = m ((c : Thread nD τ).loc main_arg4) := by
  funext j
  show m ((c : Thread nD τ).loc main_arg4) (((cfg0.win 4).blk t0_0).view.emb j) = _
  exact congrArg _ (funext fun a => Fin.ext (Pipeline.Window.rect_emb_val_of_index_zero (cfg0.win 4) t0_0 a (at_zero 4 a) j))

theorem finalA_out (c : Dev nD) : finalA m c 5 = res m c :=
  (dats m 0 c).arrAt_eq_of_after_last 5 t0_0 (by decide +kernel) (res m c) fun _ => rfl

end Cert.Attn

end

end
-- ==== Proof.Ref.lean ====
/-
# The reference's values as numbers

The reference's operations read element by element: its result is the attention of Spec.lean.
-/
module

public import proofs.«01_k».proof.Proof.Gen.ReferenceIdeal.Read
public import proofs.«01_k».proof.Proof.Spec

@[expose] public section

noncomputable section

namespace Cert.RefVal

open Cert.ReferenceIdeal Cert.ReferenceIdeal.Gen Cert.ReferenceIdeal.Read Cert.Spec
open Idealize.ShloMosaic

/-! ## The tables -/

theorem even_word : ∀ p : Fin 64, IntOp.addi 0#32 (IntOp.muli 2#32 (BitVec.ofNat 32 p.val)) = BitVec.ofNat 32 (2 * p.val) := by
  decide +kernel

theorem v18_ix (i : Fin 512) (d : Fin 128) : val_main_v18 (F := Ideal) (ix2 i ⟨d.val / 2, by omega⟩) = ((ang i d : ℝ) : EReal) := by
  pointwise [val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_c, val_main_c_0, val_main_cst, val_main_cst_1, val_main_cst_2]
  rw [even_word ⟨d.val / 2, by omega⟩, word_num (by omega), word_num (by show 2 * (d.val / 2) < 1024; omega), bits_base, bits_width]
  exact (congrArg _ (freq_pow _)).trans (EReal.coe_mul _ _).symm

theorem v21_ix (i : Fin 512) (d : Fin 128) : val_main_v21 (F := Ideal) (ix2 i d) = cosE i d := by
  pointwise [val_main_v21, val_main_v20, val_main_v19]
  rw [v18_ix]; rfl
theorem v24_ix (i : Fin 512) (d : Fin 128) : val_main_v24 (F := Ideal) (ix2 i d) = sinE i d := by
  pointwise [val_main_v24, val_main_v23, val_main_v22]
  rw [v18_ix]; rfl

/-! ## The projections and the rotation -/

variable (x0 : (⟨S2x512x1024, .f32⟩ : BufTy).Contents (Elt Ideal)) (x1 x2 x3 : (⟨S1024x32768, .f32⟩ : BufTy).Contents (Elt Ideal))
  (x4 : (⟨S32768x1024, .f32⟩ : BufTy).Contents (Elt Ideal))

/-- The arrays as functions of their coordinates. -/
def fX (b : Fin 2) (i : Fin 512) (k : Fin 1024) : EReal := x0 (ix3 b i k)
def fW (k : Fin 1024) (n : Fin 32768) : EReal := x1 (ix2 k n)
def fO (n : Fin 32768) (e : Fin 1024) : EReal := x4 (ix2 n e)

theorem v26_ix (b : Fin 2) (i : Fin 512) (h : Fin 256) (d : Fin 128) : val_main_v26 (F := Ideal) x0 x1 (ix4 b i h d) = proj (fX x0) (fW x1) b h i d := by
  pointwise [val_main_v26, val_main_v25]
  unfold proj fX fW
  refine Finset.sum_congr rfl fun k _ => congrArg (fun n => x0 (ix3 b i k) * x1 (ix2 k n)) (Fin.ext ?_)
  show h.val * 128 + d.val = 128 * h.val + d.val
  omega

theorem v45_eq : val_main_v45 (F := Ideal) x0 x2 = val_main_v26 (F := Ideal) x0 x2 := by
  unfold val_main_v45 val_main_v44 val_main_v26 val_main_v25; rfl
theorem v64_eq : val_main_v64 (F := Ideal) x0 x3 = val_main_v26 (F := Ideal) x0 x3 := by
  unfold val_main_v64 val_main_v63 val_main_v26 val_main_v25; rfl

theorem v36_ix (b : Fin 2) (i : Fin 512) (h : Fin 256) (d : Fin 128) :
    val_main_v36 (F := Ideal) x0 x1 (ix4 b i h d) = swap (fun d => val_main_v26 (F := Ideal) x0 x1 (ix4 b i h d)) d := by
  unfold val_main_v36 val_main_v35 val_main_v34 val_main_v33 val_main_v32 val_main_v31 val_main_v30 val_main_v29 val_main_v28 val_main_v27
  generalize val_main_v26 (F := Ideal) x0 x1 = u
  pointwise []
  unfold swap
  by_cases hd : d.val % 2 = 0
  · rw [dif_pos (by omega), if_pos hd]
    exact congrArg (fun l => -u (ix4 b i h l)) (Fin.ext (by show d.val / 2 * 2 + 1 = (d.val + 1) % 128; omega))
  · rw [dif_neg (by omega), if_neg hd]
    exact congrArg (fun l => u (ix4 b i h l)) (Fin.ext (by show d.val / 2 * 2 = (d.val + 127) % 128; omega))

theorem at38 (b : Fin 2) (i : Fin 512) (h : Fin 256) (d : Fin 128) : idx_main_v37 (idx_main_v38 (ix4 b i h d)) = ix2 i d :=
  funext fun a => match a with
    | ⟨0, _⟩ => rfl
    | ⟨1, _⟩ => rfl
theorem at41 (b : Fin 2) (i : Fin 512) (h : Fin 256) (d : Fin 128) : idx_main_v40 (idx_main_v41 (ix4 b i h d)) = ix2 i d :=
  funext fun a => match a with
    | ⟨0, _⟩ => rfl
    | ⟨1, _⟩ => rfl

theorem v43_ix (b : Fin 2) (i : Fin 512) (h : Fin 256) (d : Fin 128) :
    val_main_v43 (F := Ideal) x0 x1 (ix4 b i h d) = rope (proj (fX x0) (fW x1) b h) i d := by
  have hs := v36_ix x0 x1 b i h d
  have hp := v26_ix x0 x1 b i h
  rw [funext hp] at hs
  rw [val_main_v43_apply, val_main_v39_apply, val_main_v42_apply, val_main_v38_apply, val_main_v37_apply, val_main_v41_apply,
    val_main_v40_apply, at38, at41, hp, hs, v21_ix, v24_ix]
  rfl

theorem v62_eq : val_main_v62 (F := Ideal) x0 x2 = val_main_v43 (F := Ideal) x0 x2 := by
  unfold val_main_v62 val_main_v61 val_main_v60 val_main_v59 val_main_v58 val_main_v57 val_main_v56 val_main_v55 val_main_v54 val_main_v53
    val_main_v52 val_main_v51 val_main_v50 val_main_v49 val_main_v48 val_main_v47 val_main_v46
  unfold val_main_v43 val_main_v42 val_main_v41 val_main_v40 val_main_v39 val_main_v38 val_main_v37 val_main_v36 val_main_v35 val_main_v34 val_main_v33
    val_main_v32 val_main_v31 val_main_v30 val_main_v29 val_main_v28 val_main_v27
  rw [v45_eq]

/-! ## The heads -/

theorem v67_ix (b : Fin 2) (h : Fin 256) (i j : Fin 512) :
    val_main_v67 (F := Ideal) x0 x1 x2 (ix4 b h i j) = score (proj (fX x0) (fW x1) b h) (proj (fX x0) (fW x2) b h) i j := by
  have hq := v43_ix x0 x1 b i h
  have hk := v43_ix x0 x2 b j h
  unfold val_main_v67 val_main_v66 val_main_v65 val_main_cst_3
  rw [v62_eq]
  generalize val_main_v43 (F := Ideal) x0 x1 = u at *
  generalize val_main_v43 (F := Ideal) x0 x2 = w at *
  pointwise []
  simp only [hq, hk]
  rfl

theorem v72_ix (b : Fin 2) (h : Fin 256) (i j : Fin 512) :
    val_main_v72 (F := Ideal) x0 x1 x2 (ix4 b h i j) = weight (proj (fX x0) (fW x1) b h) (proj (fX x0) (fW x2) b h) i j := by
  have hs := v67_ix x0 x1 x2 b h i
  unfold val_main_v72 val_main_v71 val_main_v70 val_main_v69 val_main_v68 val_main_cst_4
  generalize val_main_v67 (F := Ideal) x0 x1 x2 = s at *
  pointwise []
  simp only [hs]
  rfl

theorem v78_ix (b : Fin 2) (h : Fin 256) (i : Fin 512) (d : Fin 128) :
    val_main_v78 (F := Ideal) x0 x1 x2 x3 (ix4 b i h d)
      = head (proj (fX x0) (fW x1) b h) (proj (fX x0) (fW x2) b h) (proj (fX x0) (fW x3) b h) i d := by
  have hw := v72_ix x0 x1 x2 b h i
  have hv (j : Fin 512) := v26_ix x0 x3 b j h d
  unfold val_main_v78 val_main_v77 val_main_v76 val_main_v75 val_main_v74 val_main_v73 val_main_cst_5
  rw [v64_eq]
  generalize val_main_v72 (F := Ideal) x0 x1 x2 = w at *
  generalize val_main_v26 (F := Ideal) x0 x3 = v at *
  pointwise []
  simp only [hw, hv]
  unfold head
  exact Finset.sum_congr rfl fun j _ => mul_comm _ _

/-! ## The result -/

theorem v81_ix (r e : Fin 1024) : val_main_v81 (F := Ideal) x0 x1 x2 x3 x4 (ix2 r e) = out (fX x0) (fW x1) (fW x2) (fW x3) (fO x4) r e := by
  have hh := v78_ix x0 x1 x2 x3
  unfold val_main_v81 val_main_v80 val_main_v79
  generalize val_main_v78 (F := Ideal) x0 x1 x2 x3 = u at *
  pointwise []
  simp only [hh]
  rfl

end Cert.RefVal

end

end
-- ==== Proof.lean ====
/-
# The claims

The kernel runs on its 32 devices at any float values (`Cert.Attn.run_main`), which is its frame both as compiled and at exact
arithmetic; the reference's run is read back from its operations. Over the extended reals the kernel's result on every device
(`Cert.Attn.outOf_apply`) and the reference's (`Cert.RefVal.v81_ix`) are the same attention.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Arrays
public import proofs.«01_k».proof.Proof.Ref
public import Idealize.ShloMosaic.Adequacy
public import Idealize.ShloMosaic.Init

@[expose] public section

noncomputable section

namespace Cert.Proof

open Idealize.ShloMosaic Idealize.ShloMosaic.TcCoe Idealize.SL.Sem

section
open Cert.KernelIdeal Cert.KernelIdeal.Gen Cert.Attn
variable {F : FTy → Type} [FloatOps F]

/-- The run, read at the arguments. -/
theorem args_kept (m : (ℓ : Loc nD τ sig) → Buf (Elt F) ℓ) {r : PUnit × MemSt nD τ sig (Elt F)} (h : QC m r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨(h c 0).trans (finalA_arg m c 0 rfl), (h c 1).trans (finalA_arg m c 1 rfl), (h c 2).trans (finalA_arg m c 2 rfl),
    (h c 3).trans (finalA_arg m c 3 rfl), (h c 4).trans (finalA_arg m c 4 rfl)⟩

/-- The frame, at any float values. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨args_kept m h.1, h.2⟩) (run_main m ρ)
end

section
attribute [local instance] Cert.Kernel.Gen.facts Cert.KernelIdeal.Gen.facts

/-- The two programs have one text; their tables of bodies are equal entry by entry. -/
theorem bodies_eq : Cert.Kernel.defs₀ (F := Bits) = Cert.KernelIdeal.defs₀ (F := Bits) := by
  unfold Cert.Kernel.defs₀ Cert.KernelIdeal.defs₀
  refine congrArg Defs.onTc ?_
  funext l x
  match l, x with
  | ⟨0, _⟩, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs (Cert.KernelIdeal.pcfgs (F := Bits))) bodies_eq
end

theorem frame_kernel : Cert.quiescent_Kernel (hKernel := Cert.Kernel.Gen.facts) := fun m ρ _ => by
  rw [defs_eq]; exact run_frame (F := Bits) m ρ

theorem frame_ideal : Cert.quiescent_KernelIdeal (hKernelIdeal := Cert.KernelIdeal.Gen.facts) := fun m ρ _ => run_frame (F := Ideal) m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The values -/

/-- Columns `1024 c …` of a 32768-column array. -/
theorem cols_at (c : Fin 32) (x : (⟨2, ![1024, 32768]⟩ : Shape).Idx → EReal) (k n : Fin 1024) :
    Layout.block ⟨2, ![1024, 1024]⟩ ⟨2, ![1024, 32768]⟩ 1 32 c x (by decide) (ix2 k n) = x (ix2 k ⟨1024 * c.val + n.val, by omega⟩) := by
  refine congrArg x (funext fun a => ?_)
  match a with
  | ⟨0, _⟩ => exact Fin.ext rfl
  | ⟨1, _⟩ => exact Fin.ext (by show c.val * 1024 + n.val = 1024 * c.val + n.val; omega)
/-- Rows `1024 c …` of a 32768-row array. -/
theorem rows_at (c : Fin 32) (x : (⟨2, ![32768, 1024]⟩ : Shape).Idx → EReal) (n e : Fin 1024) :
    Layout.block ⟨2, ![1024, 1024]⟩ ⟨2, ![32768, 1024]⟩ 0 32 c x (by decide) (ix2 n e) = x (ix2 ⟨1024 * c.val + n.val, by omega⟩ e) := by
  refine congrArg x (funext fun a => ?_)
  match a with
  | ⟨0, _⟩ => exact Fin.ext (by show c.val * 1024 + n.val = 1024 * c.val + n.val; omega)
  | ⟨1, _⟩ => exact Fin.ext rfl

/-- From memories that hold the same arrays, whole or in parts, the kernel's result on every device is the reference's. -/
theorem algebraic : Cert.algebraic_KernelIdeal_ReferenceIdeal (hKernelIdeal := Cert.KernelIdeal.Gen.facts) (hReferenceIdeal := Cert.ReferenceIdeal.Gen.facts) := by
  intro m g m' g' _ hm
  have H : Cert.Attn.Starts (Cert.RefVal.fX (m' (((0 : Dev Cert.ReferenceIdeal.nD).tc : Thread Cert.ReferenceIdeal.nD Cert.ReferenceIdeal.τ).loc Cert.ReferenceIdeal.main_arg0)))
      (Cert.RefVal.fW (m' (((0 : Dev Cert.ReferenceIdeal.nD).tc : Thread Cert.ReferenceIdeal.nD Cert.ReferenceIdeal.τ).loc Cert.ReferenceIdeal.main_arg1)))
      (Cert.RefVal.fW (m' (((0 : Dev Cert.ReferenceIdeal.nD).tc : Thread Cert.ReferenceIdeal.nD Cert.ReferenceIdeal.τ).loc Cert.ReferenceIdeal.main_arg2)))
      (Cert.RefVal.fW (m' (((0 : Dev Cert.ReferenceIdeal.nD).tc : Thread Cert.ReferenceIdeal.nD Cert.ReferenceIdeal.τ).loc Cert.ReferenceIdeal.main_arg3)))
      (Cert.RefVal.fO (m' (((0 : Dev Cert.ReferenceIdeal.nD).tc : Thread Cert.ReferenceIdeal.nD Cert.ReferenceIdeal.τ).loc Cert.ReferenceIdeal.main_arg4)))
      (Cert.Attn.aX m) (Cert.Attn.aQ m) (Cert.Attn.aK m) (Cert.Attn.aV m) (Cert.Attn.aO m) :=
    { x := fun c b i k => by rw [Cert.Attn.aX_eq, (hm c).1]; rfl
      q := fun c k n => by rw [Cert.Attn.aQ_eq, (hm c).2.1]; exact cols_at c _ k n
      k := fun c k n => by rw [Cert.Attn.aK_eq, (hm c).2.2.1]; exact cols_at c _ k n
      v := fun c k n => by rw [Cert.Attn.aV_eq, (hm c).2.2.2.1]; exact cols_at c _ k n
      o := fun c n e => by rw [Cert.Attn.aO_eq, (hm c).2.2.2.2]; exact rows_at c _ n e }
  have V (c : Dev Cert.KernelIdeal.nD) : Cert.Attn.res m c = Cert.ReferenceIdeal.Value.res_main_v81 m' 0 := by
    rw [Cert.ReferenceIdeal.Read.val_main_v81_eq]
    funext i
    rw [eq_ix2 i]
    exact (Cert.Attn.outOf_apply H c (i 0) (i 1)).trans (Cert.RefVal.v81_ix _ _ _ _ _ (i 0) (i 1)).symm
  refine ⟨Cert.ReferenceIdeal.Value.res_main_v81 m' 0, ?_, ?_⟩
  · exact (θ_run Cert.KernelIdeal.defs _ _).mono
      (fun _ h c => ⟨((h.1 c 5).trans (Cert.Attn.finalA_out m c)).trans (V c), args_kept m h.1 c⟩) (Cert.Attn.run_main m g)
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts, frame_kernel, frame_ideal, frame_reference, trivial, algebraic⟩

end Cert.Proof

end
